-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonzero [hPre_nonzero : Cert.Pre_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonzero [hPre_nonzero : Cert.Pre_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_nonzero [hKernelIdeal : Cert.KernelIdeal.Facts] [hPre_nonzero : Cert.Pre_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonzero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_nonzero [hReferenceIdeal : Cert.ReferenceIdeal.Facts] [hPre_nonzero : Cert.Pre_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_sqrt_two" .f32 0x3F3504F3#32 (((Real.sqrt 2)⁻¹ : ℝ) : EReal)
  ∧ IdealRules.sign_bit.Statement Cert.KernelIdeal.S48x4000 .f32

def algebraic_KernelIdeal_ReferenceIdeal_pre_nonzero [hKernelIdeal : Cert.KernelIdeal.Facts] [hReferenceIdeal : Cert.ReferenceIdeal.Facts] [hPre_nonzero : Cert.Pre_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v47)) (v1 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_v49) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def holds_KernelIdeal_near_pre_nonzero [hKernelIdeal : Cert.KernelIdeal.Facts] [hPre_nonzero : Cert.Pre_nonzero.Facts] [hPost_near : Cert.Post_near.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonzero m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ (Cert.Post_near.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (r.2.mem ((c.tc : Thread Cert.KernelIdeal.nD Cert.KernelIdeal.τ).loc Cert.KernelIdeal.main_v47)) (r.2.mem ((c.tc : Thread Cert.KernelIdeal.nD Cert.KernelIdeal.τ).loc Cert.KernelIdeal.main_v49))).1 = (fun _ => 1#1)
      ∧ (Cert.Post_near.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (r.2.mem ((c.tc : Thread Cert.KernelIdeal.nD Cert.KernelIdeal.τ).loc Cert.KernelIdeal.main_v47)) (r.2.mem ((c.tc : Thread Cert.KernelIdeal.nD Cert.KernelIdeal.τ).loc Cert.KernelIdeal.main_v49))).2 = (fun _ => 1#1))

def Claim : Prop :=
  ∃ (hKernel : Cert.Kernel.Facts) (hKernelIdeal : Cert.KernelIdeal.Facts) (hReferenceIdeal : Cert.ReferenceIdeal.Facts) (hPre_nonzero : Cert.Pre_nonzero.Facts) (hPost_near : Cert.Post_near.Facts),
    quiescent_Kernel (hKernel := hKernel)
    ∧ quiescent_KernelIdeal (hKernelIdeal := hKernelIdeal)
    ∧ quiescent_KernelIdeal_pre_nonzero (hKernelIdeal := hKernelIdeal) (hPre_nonzero := hPre_nonzero)
    ∧ quiescent_ReferenceIdeal (hReferenceIdeal := hReferenceIdeal)
    ∧ quiescent_ReferenceIdeal_pre_nonzero (hReferenceIdeal := hReferenceIdeal) (hPre_nonzero := hPre_nonzero)
    ∧ preserves_Kernel_KernelIdeal
    ∧ algebraic_KernelIdeal_ReferenceIdeal_pre_nonzero (hKernelIdeal := hKernelIdeal) (hReferenceIdeal := hReferenceIdeal) (hPre_nonzero := hPre_nonzero)
    ∧ holds_KernelIdeal_near_pre_nonzero (hKernelIdeal := hKernelIdeal) (hPre_nonzero := hPre_nonzero) (hPost_near := hPost_near)
-- ==== Post_near.lean ====
abbrev S100000x3 : Shape := ⟨2, ![100000, 3]⟩
abbrev S100000 : Shape := ⟨1, ![100000]⟩
abbrev S3 : Shape := ⟨1, ![3]⟩
abbrev S_ : Shape := ⟨0, ![]⟩
abbrev S100000x8x8x8 : Shape := ⟨4, ![100000, 8, 8, 8]⟩
abbrev S100000x1 : Shape := ⟨2, ![100000, 1]⟩
abbrev S1x3 : Shape := ⟨2, ![1, 3]⟩
abbrev S100000x3x1 : Shape := ⟨3, ![100000, 3, 1]⟩
abbrev S9 : Shape := ⟨1, ![9]⟩
abbrev S1x1x9 : Shape := ⟨3, ![1, 1, 9]⟩
abbrev S100000x3x9 : Shape := ⟨3, ![100000, 3, 9]⟩
abbrev S1x3x1 : Shape := ⟨3, ![1, 3, 1]⟩
abbrev S100000x3x8 : Shape := ⟨3, ![100000, 3, 8]⟩
abbrev S100000x1x1x1 : Shape := ⟨4, ![100000, 1, 1, 1]⟩
abbrev S100000x1x8 : Shape := ⟨3, ![100000, 1, 8]⟩
abbrev S100000x8 : Shape := ⟨2, ![100000, 8]⟩
abbrev S100000x8x1x1 : Shape := ⟨4, ![100000, 8, 1, 1]⟩
abbrev S100000x1x8x1 : Shape := ⟨4, ![100000, 1, 8, 1]⟩
abbrev S100000x8x8x1 : Shape := ⟨4, ![100000, 8, 8, 1]⟩
abbrev S100000x1x1x8 : Shape := ⟨4, ![100000, 1, 1, 8]⟩

class Facts : Prop where
  slices_S100000x3_S100000x1_0_1 : S100000x3.Slices ![0, 1] S100000x1
  shapeCasts_S100000x1_S100000 : S100000x1.ShapeCasts S100000
  slices_S100000x3_S100000x1_0_0 : S100000x3.Slices ![0, 0] S100000x1
  bcast_S100000_S100000x1_0 : S100000.BroadcastsInDim S100000x1 (![0] : Fin 1 → Fin S100000x1.rank)
  concatenates_S100000x1_S100000x1_S100000x1_S100000x3_d1 : Shape.Concatenates [S100000x1, S100000x1, S100000x1] S100000x3 1
  bcast_S_S100000x3 : S_.BroadcastsInDim S100000x3 (![] : Fin 0 → Fin S100000x3.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  bcast_S100000x3_S100000x3x1_0_1 : S100000x3.BroadcastsInDim S100000x3x1 (![0, 1] : Fin 2 → Fin S100000x3x1.rank)
  bcast_S9_S1x1x9_2 : S9.BroadcastsInDim S1x1x9 (![2] : Fin 1 → Fin S1x1x9.rank)
  bcast_S100000x3x1_S100000x3x9_0_1_2 : S100000x3x1.BroadcastsInDim S100000x3x9 (![0, 1, 2] : Fin 3 → Fin S100000x3x9.rank)
  bcast_S1x1x9_S100000x3x9_0_1_2 : S1x1x9.BroadcastsInDim S100000x3x9 (![0, 1, 2] : Fin 3 → Fin S100000x3x9.rank)
  bcast_S3_S1x3x1_1 : S3.BroadcastsInDim S1x3x1 (![1] : Fin 1 → Fin S1x3x1.rank)
  bcast_S1x3x1_S100000x3x9_0_1_2 : S1x3x1.BroadcastsInDim S100000x3x9 (![0, 1, 2] : Fin 3 → Fin S100000x3x9.rank)
  bcast_S_S100000x3x1 : S_.BroadcastsInDim S100000x3x1 (![] : Fin 0 → Fin S100000x3x1.rank)
  bcast_S_S100000x3x9 : S_.BroadcastsInDim S100000x3x9 (![] : Fin 0 → Fin S100000x3x9.rank)
  slices_S100000x3x9_S100000x3x8_0_0_1 : S100000x3x9.Slices ![0, 0, 1] S100000x3x8
  slices_S100000x3x9_S100000x3x8_0_0_0 : S100000x3x9.Slices ![0, 0, 0] S100000x3x8
  bcast_S100000_S100000x1x1x1_0 : S100000.BroadcastsInDim S100000x1x1x1 (![0] : Fin 1 → Fin S100000x1x1x1.rank)
  slices_S100000x3x8_S100000x1x8_0_0_0 : S100000x3x8.Slices ![0, 0, 0] S100000x1x8
  shapeCasts_S100000x1x8_S100000x8 : S100000x1x8.ShapeCasts S100000x8
  bcast_S100000x8_S100000x8x1x1_0_1 : S100000x8.BroadcastsInDim S100000x8x1x1 (![0, 1] : Fin 2 → Fin S100000x8x1x1.rank)
  bcast_S100000x1x1x1_S100000x8x1x1_0_1_2_3 : S100000x1x1x1.BroadcastsInDim S100000x8x1x1 (![0, 1, 2, 3] : Fin 4 → Fin S100000x8x1x1.rank)
  slices_S100000x3x8_S100000x1x8_0_1_0 : S100000x3x8.Slices ![0, 1, 0] S100000x1x8
  bcast_S100000x8_S100000x1x8x1_0_2 : S100000x8.BroadcastsInDim S100000x1x8x1 (![0, 2] : Fin 2 → Fin S100000x1x8x1.rank)
  bcast_S100000x8x1x1_S100000x8x8x1_0_1_2_3 : S100000x8x1x1.BroadcastsInDim S100000x8x8x1 (![0, 1, 2, 3] : Fin 4 → Fin S100000x8x8x1.rank)
  bcast_S100000x1x8x1_S100000x8x8x1_0_1_2_3 : S100000x1x8x1.BroadcastsInDim S100000x8x8x1 (![0, 1, 2, 3] : Fin 4 → Fin S100000x8x8x1.rank)
  slices_S100000x3x8_S100000x1x8_0_2_0 : S100000x3x8.Slices ![0, 2, 0] S100000x1x8
  bcast_S100000x8_S100000x1x1x8_0_3 : S100000x8.BroadcastsInDim S100000x1x1x8 (![0, 3] : Fin 2 → Fin S100000x1x1x8.rank)
  bcast_S100000x8x8x1_S100000x8x8x8_0_1_2_3 : S100000x8x8x1.BroadcastsInDim S100000x8x8x8 (![0, 1, 2, 3] : Fin 4 → Fin S100000x8x8x8.rank)
  bcast_S100000x1x1x8_S100000x8x8x8_0_1_2_3 : S100000x1x1x8.BroadcastsInDim S100000x8x8x8 (![0, 1, 2, 3] : Fin 4 → Fin S100000x8x8x8.rank)
  bcast_S_S100000x1x1x1 : S_.BroadcastsInDim S100000x1x1x1 (![] : Fin 0 → Fin S100000x1x1x1.rank)
  bcast_S100000x1x1x1_S100000x8x8x8_0_1_2_3 : S100000x1x1x1.BroadcastsInDim S100000x8x8x8 (![0, 1, 2, 3] : Fin 4 → Fin S100000x8x8x8.rank)

variable [Facts]

def fn_part3 {F : FTy → Type} [FloatOps F] (main_arg7 : IVec S100000x3 32) (main_v59 : IVec S100000x3 32) (main_v61 : FVec F S100000x8x8x8 .f32) (main_v66 : FVec F S100000x8x8x8 .f32) : IVec S100000x8x8x8 1 × IVec S100000x3 1 :=
  let main_v67 : IVec S100000x8x8x8 1 := cmpf .ole main_v61 main_v66
  let main_v68 : IVec S100000x3 1 := cmpi .eq main_arg7 main_v59
  (main_v67, main_v68)

def fn_part2 {F : FTy → Type} [FloatOps F] (main_arg2 : FVec F S100000 .f32) (main_arg6 : FVec F S100000x8x8x8 .f32) (main_arg7 : IVec S100000x3 32) (main_v14 : FVec F S100000x3 .f32) (main_v40 : FVec F S100000x3x8 .f32) (main_v41 : FVec F S100000x1x1x1 .f32) (main_v43 : FVec F S100000x8 .f32) : IVec S100000x8x8x8 1 × IVec S100000x3 1 :=
  let main_v44 : FVec F S100000x8x1x1 .f32 := broadcastInDim S100000x8x1x1 ![0, 1] bcast_S100000x8_S100000x8x1x1_0_1 main_v43
  let main_v45 : FVec F S100000x8x1x1 .f32 := broadcastInDim S100000x8x1x1 ![0, 1, 2, 3] bcast_S100000x1x1x1_S100000x8x1x1_0_1_2_3 main_v41
  let main_v46 : FVec F S100000x8x1x1 .f32 := mulf main_v45 main_v44
  let main_v47 : FVec F S100000x1x8 .f32 := (extractStridedSlice S100000x1x8 ![0, 1, 0] · slices_S100000x3x8_S100000x1x8_0_1_0) main_v40
  let main_v48 : FVec F S100000x8 .f32 := shapeCast S100000x8 main_v47 shapeCasts_S100000x1x8_S100000x8
  let main_v49 : FVec F S100000x1x8x1 .f32 := broadcastInDim S100000x1x8x1 ![0, 2] bcast_S100000x8_S100000x1x8x1_0_2 main_v48
  let main_v50 : FVec F S100000x8x8x1 .f32 := broadcastInDim S100000x8x8x1 ![0, 1, 2, 3] bcast_S100000x8x1x1_S100000x8x8x1_0_1_2_3 main_v46
  let main_v51 : FVec F S100000x8x8x1 .f32 := broadcastInDim S100000x8x8x1 ![0, 1, 2, 3] bcast_S100000x1x8x1_S100000x8x8x1_0_1_2_3 main_v49
  let main_v52 : FVec F S100000x8x8x1 .f32 := mulf main_v50 main_v51
  let main_v53 : FVec F S100000x1x8 .f32 := (extractStridedSlice S100000x1x8 ![0, 2, 0] · slices_S100000x3x8_S100000x1x8_0_2_0) main_v40
  let main_v54 : FVec F S100000x8 .f32 := shapeCast S100000x8 main_v53 shapeCasts_S100000x1x8_S100000x8
  let main_v55 : FVec F S100000x1x1x8 .f32 := broadcastInDim S100000x1x1x8 ![0, 3] bcast_S100000x8_S100000x1x1x8_0_3 main_v54
  let main_v56 : FVec F S100000x8x8x8 .f32 := broadcastInDim S100000x8x8x8 ![0, 1, 2, 3] bcast_S100000x8x8x1_S100000x8x8x8_0_1_2_3 main_v52
  let main_v57 : FVec F S100000x8x8x8 .f32 := broadcastInDim S100000x8x8x8 ![0, 1, 2, 3] bcast_S100000x1x1x8_S100000x8x8x8_0_1_2_3 main_v55
  let main_v58 : FVec F S100000x8x8x8 .f32 := mulf main_v56 main_v57
  let main_v59 : IVec S100000x3 32 := fptosi 32 main_v14
  let main_v60 : FVec F S100000x8x8x8 .f32 := subf main_arg6 main_v58
  let main_v61 : FVec F S100000x8x8x8 .f32 := Host.absf main_v60
  let main_v62 : FVec F S100000 .f32 := Host.absf main_arg2
  let main_v63 : FVec F S100000x1x1x1 .f32 := broadcastInDim S100000x1x1x1 ![0] bcast_S100000_S100000x1x1x1_0 main_v62
  let main_cst_3 : FVec F S_ .f32 := constant S_ .f32 0x350637BD#32
  let main_v64 : FVec F S100000x1x1x1 .f32 := broadcastInDim S100000x1x1x1 ![] bcast_S_S100000x1x1x1 main_cst_3
  let main_v65 : FVec F S100000x1x1x1 .f32 := mulf main_v64 main_v63
  let main_v66 : FVec F S100000x8x8x8 .f32 := broadcastInDim S100000x8x8x8 ![0, 1, 2, 3] bcast_S100000x1x1x1_S100000x8x8x8_0_1_2_3 main_v65
  fn_part3 (F := F) main_arg7 main_v59 main_v61 main_v66

def fn_part1 {F : FTy → Type} [FloatOps F] (main_arg0 : FVec F S100000x3 .f32) (main_arg2 : FVec F S100000 .f32) (main_arg6 : FVec F S100000x8x8x8 .f32) (main_arg7 : IVec S100000x3 32) (main_v7 : FVec F S100000x3 .f32) (main_v14 : FVec F S100000x3 .f32) (main_v20 : FVec F S100000x3x9 .f32) (main_v22 : FVec F S100000x3x9 .f32) : IVec S100000x8x8x8 1 × IVec S100000x3 1 :=
  let main_v23 : FVec F S100000x3x9 .f32 := mulf main_v20 main_v22
  let main_v24 : FVec F S100000x3x1 .f32 := broadcastInDim S100000x3x1 ![0, 1] bcast_S100000x3_S100000x3x1_0_1 main_v7
  let main_v25 : FVec F S100000x3x9 .f32 := broadcastInDim S100000x3x9 ![0, 1, 2] bcast_S100000x3x1_S100000x3x9_0_1_2 main_v24
  let main_v26 : FVec F S100000x3x9 .f32 := subf main_v23 main_v25
  let main_cst_0 : FVec F S_ .f32 := constant S_ .f32 0x40000000#32
  let main_v27 : FVec F S_ .f32 := Host.sqrt main_cst_0
  let main_v28 : FVec F S100000x3x1 .f32 := broadcastInDim S100000x3x1 ![0, 1] bcast_S100000x3_S100000x3x1_0_1 main_arg0
  let main_v29 : FVec F S100000x3x1 .f32 := broadcastInDim S100000x3x1 ![] bcast_S_S100000x3x1 main_v27
  let main_v30 : FVec F S100000x3x1 .f32 := mulf main_v29 main_v28
  let main_v31 : FVec F S100000x3x9 .f32 := broadcastInDim S100000x3x9 ![0, 1, 2] bcast_S100000x3x1_S100000x3x9_0_1_2 main_v30
  let main_v32 : FVec F S100000x3x9 .f32 := Host.divf main_v26 main_v31
  let main_v33 : FVec F S100000x3x9 .f32 := Host.erf main_v32
  let main_cst_1 : FVec F S_ .f32 := constant S_ .f32 0x3F800000#32
  let main_v34 : FVec F S100000x3x9 .f32 := broadcastInDim S100000x3x9 ![] bcast_S_S100000x3x9 main_cst_1
  let main_v35 : FVec F S100000x3x9 .f32 := addf main_v34 main_v33
  let main_cst_2 : FVec F S_ .f32 := constant S_ .f32 0x3F000000#32
  let main_v36 : FVec F S100000x3x9 .f32 := broadcastInDim S100000x3x9 ![] bcast_S_S100000x3x9 main_cst_2
  let main_v37 : FVec F S100000x3x9 .f32 := mulf main_v36 main_v35
  let main_v38 : FVec F S100000x3x8 .f32 := (extractStridedSlice S100000x3x8 ![0, 0, 1] · slices_S100000x3x9_S100000x3x8_0_0_1) main_v37
  let main_v39 : FVec F S100000x3x8 .f32 := (extractStridedSlice S100000x3x8 ![0, 0, 0] · slices_S100000x3x9_S100000x3x8_0_0_0) main_v37
  let main_v40 : FVec F S100000x3x8 .f32 := subf main_v38 main_v39
  let main_v41 : FVec F S100000x1x1x1 .f32 := broadcastInDim S100000x1x1x1 ![0] bcast_S100000_S100000x1x1x1_0 main_arg2
  let main_v42 : FVec F S100000x1x8 .f32 := (extractStridedSlice S100000x1x8 ![0, 0, 0] · slices_S100000x3x8_S100000x1x8_0_0_0) main_v40
  let main_v43 : FVec F S100000x8 .f32 := shapeCast S100000x8 main_v42 shapeCasts_S100000x1x8_S100000x8
  fn_part2 (F := F) main_arg2 main_arg6 main_arg7 main_v14 main_v40 main_v41 main_v43

def fn {F : FTy → Type} [FloatOps F] (main_arg0 : FVec F S100000x3 .f32) (main_arg1 : FVec F S100000 .f32) (main_arg2 : FVec F S100000 .f32) (main_arg3 : FVec F S100000x3 .f32) (main_arg4 : FVec F S3 .f32) (main_arg5 : FVec F S_ .f32) (main_arg6 : FVec F S100000x8x8x8 .f32) (main_arg7 : IVec S100000x3 32) : IVec S100000x8x8x8 1 × IVec S100000x3 1 :=
  let main_v0 : FVec F S100000x1 .f32 := (extractStridedSlice S100000x1 ![0, 1] · slices_S100000x3_S100000x1_0_1) main_arg3
  let main_v1 : FVec F S100000 .f32 := shapeCast S100000 main_v0 shapeCasts_S100000x1_S100000
  let main_v2 : FVec F S100000x1 .f32 := (extractStridedSlice S100000x1 ![0, 0] · slices_S100000x3_S100000x1_0_0) main_arg3
  let main_v3 : FVec F S100000 .f32 := shapeCast S100000 main_v2 shapeCasts_S100000x1_S100000
  let main_v4 : FVec F S100000x1 .f32 := broadcastInDim S100000x1 ![0] bcast_S100000_S100000x1_0 main_v1
  let main_v5 : FVec F S100000x1 .f32 := broadcastInDim S100000x1 ![0] bcast_S100000_S100000x1_0 main_v3
  let main_v6 : FVec F S100000x1 .f32 := broadcastInDim S100000x1 ![0] bcast_S100000_S100000x1_0 main_arg1
  let main_v7 : FVec F S100000x3 .f32 := concatenate S100000x3 1 [⟨S100000x1, main_v4⟩, ⟨S100000x1, main_v5⟩, ⟨S100000x1, main_v6⟩] concatenates_S100000x1_S100000x1_S100000x1_S100000x3_d1
  let main_cst : FVec F S_ .f32 := constant S_ .f32 0x40400000#32
  let main_v8 : FVec F S100000x3 .f32 := broadcastInDim S100000x3 ![] bcast_S_S100000x3 main_cst
  let main_v9 : FVec F S100000x3 .f32 := mulf main_v8 main_arg0
  let main_v10 : FVec F S100000x3 .f32 := subf main_v7 main_v9
  let main_v11 : FVec F S1x3 .f32 := broadcastInDim S1x3 ![1] bcast_S3_S1x3_1 main_arg4
  let main_v12 : FVec F S100000x3 .f32 := broadcastInDim S100000x3 ![0, 1] bcast_S1x3_S100000x3_0_1 main_v11
  let main_v13 : FVec F S100000x3 .f32 := Host.divf main_v10 main_v12
  let main_v14 : FVec F S100000x3 .f32 := Host.floor main_v13
  let main_v15 : FVec F S100000x3x1 .f32 := broadcastInDim S100000x3x1 ![0, 1] bcast_S100000x3_S100000x3x1_0_1 main_v14
  let main_v16 : FVec F S9 .f32 := sitofp .f32 (iotaInDim S9 32 0)
  let main_v17 : FVec F S1x1x9 .f32 := broadcastInDim S1x1x9 ![2] bcast_S9_S1x1x9_2 main_v16
  let main_v18 : FVec F S100000x3x9 .f32 := broadcastInDim S100000x3x9 ![0, 1, 2] bcast_S100000x3x1_S100000x3x9_0_1_2 main_v15
  let main_v19 : FVec F S100000x3x9 .f32 := broadcastInDim S100000x3x9 ![0, 1, 2] bcast_S1x1x9_S100000x3x9_0_1_2 main_v17
  let main_v20 : FVec F S100000x3x9 .f32 := addf main_v18 main_v19
  let main_v21 : FVec F S1x3x1 .f32 := broadcastInDim S1x3x1 ![1] bcast_S3_S1x3x1_1 main_arg4
  let main_v22 : FVec F S100000x3x9 .f32 := broadcastInDim S100000x3x9 ![0, 1, 2] bcast_S1x3x1_S100000x3x9_0_1_2 main_v21
  fn_part1 (F := F) main_arg0 main_arg2 main_arg6 main_arg7 main_v7 main_v14 main_v20 main_v22
-- ==== Pre_nonzero.lean ====
abbrev S100000x3 : Shape := ⟨2, ![100000, 3]⟩
abbrev S100000 : Shape := ⟨1, ![100000]⟩
abbrev S3 : Shape := ⟨1, ![3]⟩
abbrev S_ : Shape := ⟨0, ![]⟩

class Facts : Prop where
  bcast_S_S100000x3 : S_.BroadcastsInDim S100000x3 (![] : Fin 0 → Fin S100000x3.rank)
  bcast_S_S3 : S_.BroadcastsInDim S3 (![] : Fin 0 → Fin S3.rank)

variable [Facts]

def fn {F : FTy → Type} [FloatOps F] (main_arg0 : FVec F S100000x3 .f32) (main_arg1 : FVec F S100000 .f32) (main_arg2 : FVec F S100000 .f32) (main_arg3 : FVec F S100000x3 .f32) (main_arg4 : FVec F S3 .f32) (main_arg5 : FVec F S_ .f32) : IVec S100000x3 1 × IVec S3 1 :=
  let main_cst : FVec F S_ .f32 := constant S_ .f32 0x00000000#32
  let main_v0 : FVec F S100000x3 .f32 := broadcastInDim S100000x3 ![] bcast_S_S100000x3 main_cst
  let main_v1 : IVec S100000x3 1 := cmpf .une main_arg0 main_v0
  let main_cst_0 : FVec F S_ .f32 := constant S_ .f32 0x00000000#32
  let main_v2 : FVec F S3 .f32 := broadcastInDim S3 ![] bcast_S_S3 main_cst_0
  let main_v3 : IVec S3 1 := cmpf .une main_arg4 main_v2
  (main_v1, main_v3)
-- ==== Kernel.lean ====
abbrev S100000x3 : Shape := ⟨2, ![100000, 3]⟩
abbrev S100000 : Shape := ⟨1, ![100000]⟩
abbrev S3 : Shape := ⟨1, ![3]⟩
abbrev S_ : Shape := ⟨0, ![]⟩
abbrev S3x1 : Shape := ⟨2, ![3, 1]⟩
abbrev S100000x1 : Shape := ⟨2, ![100000, 1]⟩
abbrev S25x4000 : Shape := ⟨2, ![25, 4000]⟩
abbrev S25x1x4000 : Shape := ⟨3, ![25, 1, 4000]⟩
abbrev S25x7x4000 : Shape := ⟨3, ![25, 7, 4000]⟩
abbrev S25x24x4000 : Shape := ⟨3, ![25, 24, 4000]⟩
abbrev S25x3x4000 : Shape := ⟨3, ![25, 3, 4000]⟩
abbrev S1x7x4000 : Shape := ⟨3, ![1, 7, 4000]⟩
abbrev S1x24x4000 : Shape := ⟨3, ![1, 24, 4000]⟩
abbrev S1x3x4000 : Shape := ⟨3, ![1, 3, 4000]⟩
abbrev S7x4000 : Shape := ⟨2, ![7, 4000]⟩
abbrev S3x4000 : Shape := ⟨2, ![3, 4000]⟩
abbrev S16x1 : Shape := ⟨2, ![16, 1]⟩
abbrev S1x4000 : Shape := ⟨2, ![1, 4000]⟩
abbrev S16x4000 : Shape := ⟨2, ![16, 4000]⟩
abbrev S1x1 : Shape := ⟨2, ![1, 1]⟩
abbrev S48x4000 : Shape := ⟨2, ![48, 4000]⟩
abbrev S8x4000 : Shape := ⟨2, ![8, 4000]⟩
abbrev S24x4000 : Shape := ⟨2, ![24, 4000]⟩
abbrev S25x8x4000 : Shape := ⟨3, ![25, 8, 4000]⟩
abbrev S25x4000x8 : Shape := ⟨3, ![25, 4000, 8]⟩
abbrev S100000x8 : Shape := ⟨2, ![100000, 8]⟩
abbrev S100000x8x1 : Shape := ⟨3, ![100000, 8, 1]⟩
abbrev S100000x1x8 : Shape := ⟨3, ![100000, 1, 8]⟩
abbrev S100000x8x8 : Shape := ⟨3, ![100000, 8, 8]⟩
abbrev S100000x8x1x1 : Shape := ⟨4, ![100000, 8, 1, 1]⟩
abbrev S100000x1x8x8 : Shape := ⟨4, ![100000, 1, 8, 8]⟩
abbrev S100000x8x8x8 : Shape := ⟨4, ![100000, 8, 8, 8]⟩
abbrev S25x4000x3 : Shape := ⟨3, ![25, 4000, 3]⟩

abbrev nBuf : Space → Nat
  | .hbm => 59
  | .vmem => 7
  | .smem => 0
  | _ => 0

abbrev bufTy : (tb : Table) → Fin (tcTables nBuf tb) → BufTy
  | .hbm, ⟨0, _⟩ => ⟨S100000x3, .f32⟩
  | .hbm, ⟨1, _⟩ => ⟨S100000, .f32⟩
  | .hbm, ⟨2, _⟩ => ⟨S100000, .f32⟩
  | .hbm, ⟨3, _⟩ => ⟨S100000x3, .f32⟩
  | .hbm, ⟨4, _⟩ => ⟨S3, .f32⟩
  | .hbm, ⟨5, _⟩ => ⟨S_, .f32⟩
  | .hbm, ⟨6, _⟩ => ⟨S3x1, .f32⟩
  | .hbm, ⟨7, _⟩ => ⟨S100000x1, .f32⟩
  | .hbm, ⟨8, _⟩ => ⟨S100000, .f32⟩
  | .hbm, ⟨9, _⟩ => ⟨S25x4000, .f32⟩
  | .hbm, ⟨10, _⟩ => ⟨S100000x1, .f32⟩
  | .hbm, ⟨11, _⟩ => ⟨S100000, .f32⟩
  | .hbm, ⟨12, _⟩ => ⟨S25x4000, .f32⟩
  | .hbm, ⟨13, _⟩ => ⟨S100000x1, .f32⟩
  | .hbm, ⟨14, _⟩ => ⟨S100000, .f32⟩
  | .hbm, ⟨15, _⟩ => ⟨S25x4000, .f32⟩
  | .hbm, ⟨16, _⟩ => ⟨S100000x1, .f32⟩
  | .hbm, ⟨17, _⟩ => ⟨S100000, .f32⟩
  | .hbm, ⟨18, _⟩ => ⟨S25x4000, .f32⟩
  | .hbm, ⟨19, _⟩ => ⟨S100000x1, .f32⟩
  | .hbm, ⟨20, _⟩ => ⟨S100000, .f32⟩
  | .hbm, ⟨21, _⟩ => ⟨S25x4000, .f32⟩
  | .hbm, ⟨22, _⟩ => ⟨S25x4000, .f32⟩
  | .hbm, ⟨23, _⟩ => ⟨S25x4000, .f32⟩
  | .hbm, ⟨24, _⟩ => ⟨S25x1x4000, .f32⟩
  | .hbm, ⟨25, _⟩ => ⟨S25x1x4000, .f32⟩
  | .hbm, ⟨26, _⟩ => ⟨S25x1x4000, .f32⟩
  | .hbm, ⟨27, _⟩ => ⟨S25x1x4000, .f32⟩
  | .hbm, ⟨28, _⟩ => ⟨S25x1x4000, .f32⟩
  | .hbm, ⟨29, _⟩ => ⟨S25x1x4000, .f32⟩
  | .hbm, ⟨30, _⟩ => ⟨S25x1x4000, .f32⟩
  | .hbm, ⟨31, _⟩ => ⟨S25x7x4000, .f32⟩
  | .hbm, ⟨32, _⟩ => ⟨S25x24x4000, .f32⟩
  | .hbm, ⟨33, _⟩ => ⟨S25x3x4000, .i32⟩
  | .hbm, ⟨34, _⟩ => ⟨S25x8x4000, .f32⟩
  | .hbm, ⟨35, _⟩ => ⟨S25x4000x8, .f32⟩
  | .hbm, ⟨36, _⟩ => ⟨S100000x8, .f32⟩
  | .hbm, ⟨37, _⟩ => ⟨S25x8x4000, .f32⟩
  | .hbm, ⟨38, _⟩ => ⟨S25x4000x8, .f32⟩
  | .hbm, ⟨39, _⟩ => ⟨S100000x8, .f32⟩
  | .hbm, ⟨40, _⟩ => ⟨S25x8x4000, .f32⟩
  | .hbm, ⟨41, _⟩ => ⟨S25x4000x8, .f32⟩
  | .hbm, ⟨42, _⟩ => ⟨S100000x8, .f32⟩
  | .hbm, ⟨43, _⟩ => ⟨S100000x8, .f32⟩
  | .hbm, ⟨44, _⟩ => ⟨S100000x8, .f32⟩
  | .hbm, ⟨45, _⟩ => ⟨S100000x8, .f32⟩
  | .hbm, ⟨46, _⟩ => ⟨S100000x8x1, .f32⟩
  | .hbm, ⟨47, _⟩ => ⟨S100000x1x8, .f32⟩
  | .hbm, ⟨48, _⟩ => ⟨S100000x8x8, .f32⟩
  | .hbm, ⟨49, _⟩ => ⟨S100000x8x8, .f32⟩
  | .hbm, ⟨50, _⟩ => ⟨S100000x8x8, .f32⟩
  | .hbm, ⟨51, _⟩ => ⟨S100000x8x8, .f32⟩
  | .hbm, ⟨52, _⟩ => ⟨S100000x8x1x1, .f32⟩
  | .hbm, ⟨53, _⟩ => ⟨S100000x1x8x8, .f32⟩
  | .hbm, ⟨54, _⟩ => ⟨S100000x8x8x8, .f32⟩
  | .hbm, ⟨55, _⟩ => ⟨S100000x8x8x8, .f32⟩
  | .hbm, ⟨56, _⟩ => ⟨S100000x8x8x8, .f32⟩
  | .hbm, ⟨57, _⟩ => ⟨S25x4000x3, .i32⟩
  | .hbm, ⟨58, _⟩ => ⟨S100000x3, .i32⟩
  | .local _ .vmem, ⟨0, _⟩ => ⟨S3x1, .f32⟩
  | .local _ .vmem, ⟨1, _⟩ => ⟨S1x7x4000, .f32⟩
  | .local _ .vmem, ⟨2, _⟩ => ⟨S1x7x4000, .f32⟩
  | .local _ .vmem, ⟨3, _⟩ => ⟨S1x24x4000, .f32⟩
  | .local _ .vmem, ⟨4, _⟩ => ⟨S1x24x4000, .f32⟩
  | .local _ .vmem, ⟨5, _⟩ => ⟨S1x3x4000, .i32⟩
  | .local _ .vmem, ⟨6, _⟩ => ⟨S1x3x4000, .i32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26_0 : Ref sig .tc := ⟨.hbm, 32, rfl⟩
abbrev main_v26_1 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36_0 : Ref sig .tc := ⟨.hbm, 43, rfl⟩
abbrev main_v36_1 : Ref sig .tc := ⟨.hbm, 44, rfl⟩
abbrev main_v36_2 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [BitOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S3x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x7x4000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x24x4000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x4000 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "inv_sqrt_two" => some (((Real.sqrt 2)⁻¹ : ℝ) : EReal)
  | _ => none
-- ==== ReferenceIdeal.lean ====
abbrev S100000x3 : Shape := ⟨2, ![100000, 3]⟩
abbrev S100000 : Shape := ⟨1, ![100000]⟩
abbrev S3 : Shape := ⟨1, ![3]⟩
abbrev S_ : Shape := ⟨0, ![]⟩
abbrev S100000x1 : Shape := ⟨2, ![100000, 1]⟩
abbrev S1x3 : Shape := ⟨2, ![1, 3]⟩
abbrev S100000x3x1 : Shape := ⟨3, ![100000, 3, 1]⟩
abbrev S9 : Shape := ⟨1, ![9]⟩
abbrev S1x1x9 : Shape := ⟨3, ![1, 1, 9]⟩
abbrev S100000x3x9 : Shape := ⟨3, ![100000, 3, 9]⟩
abbrev S1x3x1 : Shape := ⟨3, ![1, 3, 1]⟩
abbrev S100000x3x8 : Shape := ⟨3, ![100000, 3, 8]⟩
abbrev S100000x1x1x1 : Shape := ⟨4, ![100000, 1, 1, 1]⟩
abbrev S100000x1x8 : Shape := ⟨3, ![100000, 1, 8]⟩
abbrev S100000x8 : Shape := ⟨2, ![100000, 8]⟩
abbrev S100000x8x1x1 : Shape := ⟨4, ![100000, 8, 1, 1]⟩
abbrev S100000x1x8x1 : Shape := ⟨4, ![100000, 1, 8, 1]⟩
abbrev S100000x8x8x1 : Shape := ⟨4, ![100000, 8, 8, 1]⟩
abbrev S100000x1x1x8 : Shape := ⟨4, ![100000, 1, 1, 8]⟩
abbrev S100000x8x8x8 : Shape := ⟨4, ![100000, 8, 8, 8]⟩

abbrev nBuf : Space → Nat
  | .hbm => 117
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S100000, .f32⟩
  | .hbm, ⟨2, _⟩ => ⟨S100000, .f32⟩
  | .hbm, ⟨3, _⟩ => ⟨S100000x3, .f32⟩
  | .hbm, ⟨4, _⟩ => ⟨S3, .f32⟩
  | .hbm, ⟨5, _⟩ => ⟨S_, .f32⟩
  | .hbm, ⟨6, _⟩ => ⟨S100000x1, .f32⟩
  | .hbm, ⟨7, _⟩ => ⟨S100000, .f32⟩
  | .hbm, ⟨8, _⟩ => ⟨S100000x1, .f32⟩
  | .hbm, ⟨9, _⟩ => ⟨S100000, .f32⟩
  | .hbm, ⟨10, _⟩ => ⟨S100000x1, .f32⟩
  | .hbm, ⟨11, _⟩ => ⟨S100000x1, .f32⟩
  | .hbm, ⟨12, _⟩ => ⟨S100000x1, .f32⟩
  | .hbm, ⟨13, _⟩ => ⟨S100000x3, .f32⟩
  | .hbm, ⟨14, _⟩ => ⟨S_, .f32⟩
  | .hbm, ⟨15, _⟩ => ⟨S100000x3, .f32⟩
  | .hbm, ⟨16, _⟩ => ⟨S100000x3, .f32⟩
  | .hbm, ⟨17, _⟩ => ⟨S100000x3, .f32⟩
  | .hbm, ⟨18, _⟩ => ⟨S1x3, .f32⟩
  | .hbm, ⟨19, _⟩ => ⟨S100000x3, .f32⟩
  | .hbm, ⟨20, _⟩ => ⟨S100000x3, .f32⟩
  | .hbm, ⟨21, _⟩ => ⟨S100000x3, .f32⟩
  | .hbm, ⟨22, _⟩ => ⟨S100000x3x1, .f32⟩
  | .hbm, ⟨23, _⟩ => ⟨S9, .f32⟩
  | .hbm, ⟨24, _⟩ => ⟨S1x1x9, .f32⟩
  | .hbm, ⟨25, _⟩ => ⟨S100000x3x9, .f32⟩
  | .hbm, ⟨26, _⟩ => ⟨S100000x3x9, .f32⟩
  | .hbm, ⟨27, _⟩ => ⟨S100000x3x9, .f32⟩
  | .hbm, ⟨28, _⟩ => ⟨S1x3x1, .f32⟩
  | .hbm, ⟨29, _⟩ => ⟨S100000x3x9, .f32⟩
  | .hbm, ⟨30, _⟩ => ⟨S100000x3x9, .f32⟩
  | .hbm, ⟨31, _⟩ => ⟨S100000x3x1, .f32⟩
  | .hbm, ⟨32, _⟩ => ⟨S100000x3x9, .f32⟩
  | .hbm, ⟨33, _⟩ => ⟨S100000x3x9, .f32⟩
  | .hbm, ⟨34, _⟩ => ⟨S_, .f32⟩
  | .hbm, ⟨35, _⟩ => ⟨S_, .f32⟩
  | .hbm, ⟨36, _⟩ => ⟨S100000x3x1, .f32⟩
  | .hbm, ⟨37, _⟩ => ⟨S100000x3x1, .f32⟩
  | .hbm, ⟨38, _⟩ => ⟨S100000x3x1, .f32⟩
  | .hbm, ⟨39, _⟩ => ⟨S100000x3x9, .f32⟩
  | .hbm, ⟨40, _⟩ => ⟨S100000x3x9, .f32⟩
  | .hbm, ⟨41, _⟩ => ⟨S100000x3x9, .f32⟩
  | .hbm, ⟨42, _⟩ => ⟨S_, .f32⟩
  | .hbm, ⟨43, _⟩ => ⟨S100000x3x9, .f32⟩
  | .hbm, ⟨44, _⟩ => ⟨S100000x3x9, .f32⟩
  | .hbm, ⟨45, _⟩ => ⟨S_, .f32⟩
  | .hbm, ⟨46, _⟩ => ⟨S100000x3x9, .f32⟩
  | .hbm, ⟨47, _⟩ => ⟨S100000x3x9, .f32⟩
  | .hbm, ⟨48, _⟩ => ⟨S_, .f32⟩
  | .hbm, ⟨49, _⟩ => ⟨S100000x3x9, .f32⟩
  | .hbm, ⟨50, _⟩ => ⟨S100000x3x9, .f32⟩
  | .hbm, ⟨51, _⟩ => ⟨S_, .f32⟩
  | .hbm, ⟨52, _⟩ => ⟨S100000x3x9, .f32⟩
  | .hbm, ⟨53, _⟩ => ⟨S100000x3x9, .f32⟩
  | .hbm, ⟨54, _⟩ => ⟨S100000x3x9, .f32⟩
  | .hbm, ⟨55, _⟩ => ⟨S_, .f32⟩
  | .hbm, ⟨56, _⟩ => ⟨S100000x3x9, .f32⟩
  | .hbm, ⟨57, _⟩ => ⟨S100000x3x9, .f32⟩
  | .hbm, ⟨58, _⟩ => ⟨S100000x3x9, .f32⟩
  | .hbm, ⟨59, _⟩ => ⟨S100000x3x9, .f32⟩
  | .hbm, ⟨60, _⟩ => ⟨S100000x3x9, .f32⟩
  | .hbm, ⟨61, _⟩ => ⟨S_, .f32⟩
  | .hbm, ⟨62, _⟩ => ⟨S100000x3x9, .f32⟩
  | .hbm, ⟨63, _⟩ => ⟨S100000x3x9, .f32⟩
  | .hbm, ⟨64, _⟩ => ⟨S100000x3x9, .f32⟩
  | .hbm, ⟨65, _⟩ => ⟨S100000x3x9, .f32⟩
  | .hbm, ⟨66, _⟩ => ⟨S100000x3x9, .f32⟩
  | .hbm, ⟨67, _⟩ => ⟨S100000x3x9, .f32⟩
  | .hbm, ⟨68, _⟩ => ⟨S_, .f32⟩
  | .hbm, ⟨69, _⟩ => ⟨S100000x3x9, .f32⟩
  | .hbm, ⟨70, _⟩ => ⟨S100000x3x9, .f32⟩
  | .hbm, ⟨71, _⟩ => ⟨S100000x3x9, .f32⟩
  | .hbm, ⟨72, _⟩ => ⟨S100000x3x9, .f32⟩
  | .hbm, ⟨73, _⟩ => ⟨S100000x3x9, .f32⟩
  | .hbm, ⟨74, _⟩ => ⟨S100000x3x9, .f32⟩
  | .hbm, ⟨75, _⟩ => ⟨S100000x3x9, .f32⟩
  | .hbm, ⟨76, _⟩ => ⟨S_, .f32⟩
  | .hbm, ⟨77, _⟩ => ⟨S100000x3x9, .f32⟩
  | .hbm, ⟨78, _⟩ => ⟨S100000x3x9, .f32⟩
  | .hbm, ⟨79, _⟩ => ⟨S100000x3x9, .f32⟩
  | .hbm, ⟨80, _⟩ => ⟨S100000x3x9, .f32⟩
  | .hbm, ⟨81, _⟩ => ⟨S100000x3x9, .f32⟩
  | .hbm, ⟨82, _⟩ => ⟨S100000x3x9, .f32⟩
  | .hbm, ⟨83, _⟩ => ⟨S100000x3x9, .f32⟩
  | .hbm, ⟨84, _⟩ => ⟨S_, .f32⟩
  | .hbm, ⟨85, _⟩ => ⟨S100000x3x9, .f32⟩
  | .hbm, ⟨86, _⟩ => ⟨S100000x3x9, .f32⟩
  | .hbm, ⟨87, _⟩ => ⟨S100000x3x9, .f32⟩
  | .hbm, ⟨88, _⟩ => ⟨S100000x3x9, .f32⟩
  | .hbm, ⟨89, _⟩ => ⟨S_, .f32⟩
  | .hbm, ⟨90, _⟩ => ⟨S100000x3x9, .f32⟩
  | .hbm, ⟨91, _⟩ => ⟨S100000x3x9, .f32⟩
  | .hbm, ⟨92, _⟩ => ⟨S_, .f32⟩
  | .hbm, ⟨93, _⟩ => ⟨S100000x3x9, .f32⟩
  | .hbm, ⟨94, _⟩ => ⟨S100000x3x9, .f32⟩
  | .hbm, ⟨95, _⟩ => ⟨S100000x3x8, .f32⟩
  | .hbm, ⟨96, _⟩ => ⟨S100000x3x8, .f32⟩
  | .hbm, ⟨97, _⟩ => ⟨S100000x3x8, .f32⟩
  | .hbm, ⟨98, _⟩ => ⟨S100000x1x1x1, .f32⟩
  | .hbm, ⟨99, _⟩ => ⟨S100000x1x8, .f32⟩
  | .hbm, ⟨100, _⟩ => ⟨S100000x8, .f32⟩
  | .hbm, ⟨101, _⟩ => ⟨S100000x8x1x1, .f32⟩
  | .hbm, ⟨102, _⟩ => ⟨S100000x8x1x1, .f32⟩
  | .hbm, ⟨103, _⟩ => ⟨S100000x8x1x1, .f32⟩
  | .hbm, ⟨104, _⟩ => ⟨S100000x1x8, .f32⟩
  | .hbm, ⟨105, _⟩ => ⟨S100000x8, .f32⟩
  | .hbm, ⟨106, _⟩ => ⟨S100000x1x8x1, .f32⟩
  | .hbm, ⟨107, _⟩ => ⟨S100000x8x8x1, .f32⟩
  | .hbm, ⟨108, _⟩ => ⟨S100000x8x8x1, .f32⟩
  | .hbm, ⟨109, _⟩ => ⟨S100000x8x8x1, .f32⟩
  | .hbm, ⟨110, _⟩ => ⟨S100000x1x8, .f32⟩
  | .hbm, ⟨111, _⟩ => ⟨S100000x8, .f32⟩
  | .hbm, ⟨112, _⟩ => ⟨S100000x1x1x8, .f32⟩
  | .hbm, ⟨113, _⟩ => ⟨S100000x8x8x8, .f32⟩
  | .hbm, ⟨114, _⟩ => ⟨S100000x8x8x8, .f32⟩
  | .hbm, ⟨115, _⟩ => ⟨S100000x8x8x8, .f32⟩
  | .hbm, ⟨116, _⟩ => ⟨S100000x3, .i32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_0 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_1 : Ref sig .tc := ⟨.hbm, 42, rfl⟩
abbrev main_v34 : Ref sig .tc := ⟨.hbm, 43, rfl⟩
abbrev main_v35 : Ref sig .tc := ⟨.hbm, 44, rfl⟩
abbrev main_cst_2 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_6 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_7 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_8 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_9 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_10 : Ref sig .tc := ⟨.hbm, 89, rfl⟩
abbrev main_v72 : Ref sig .tc := ⟨.hbm, 90, rfl⟩
abbrev main_v73 : Ref sig .tc := ⟨.hbm, 91, rfl⟩
abbrev main_cst_11 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩

abbrev nD : Nat := 1
abbrev τ : Topo := Topo.v7x

variable {F : FTy → Type} [FloatOps F]
-- ==== Proof.Model.lean ====
/- The scalar functions on extended reals that the two programs compute, one raster axis at a time. Each is written with
   the operations of the program it describes, in that program's order; `Proof/Equation.lean` proves the two families
   equal. -/
module

public import Idealize.ShloMosaic.Lib.Pointwise

@[expose] public section

noncomputable section

namespace Cert.Proof.Model

open Idealize.ShloMosaic

/-- An extended real given by a 32-bit float word. -/
abbrev lit (w : BitVec 32) : EReal := Ideal.ofBits FTy.f32 w

/-- The magnitude of an extended real. -/
abbrev mag (z : EReal) : EReal := FloatOps.absf (F := Ideal) (φ := .f32) z

/-- The number of an edge, converted from a 32-bit integer. -/
def edge (k : ℕ) : EReal := FloatOps.sitofp (F := Ideal) FTy.f32 (BitVec.ofNat 32 k)

/-- The reciprocal square root of two. -/
def invSqrtTwo : EReal := (((Real.sqrt 2)⁻¹ : ℝ) : EReal)

/-- The kernel's cell of the lower corner: three widths `s` below the centre `c`, in cells of size `g`, rounded down. -/
def kCorner (s c g : EReal) : EReal :=
  Ideal.liftRound Int.floor ((c - lit 0x40400000#32 * s) * Ideal.div 1 g)

/-- The kernel's argument of the error function at edge `k`. -/
def kArg (s c g : EReal) (k : ℕ) : EReal :=
  ((kCorner s c g + edge k) * g - c) * Ideal.div invSqrtTwo s

/-- The kernel's sign: the number itself where its magnitude is zero. -/
def kSign (z : EReal) : EReal := if 0 < mag z then (if z < 0 then lit 0xBF800000#32 else 1) else z

/-- The variable of formula 7.1.26. -/
def kVar (z : EReal) : EReal := Ideal.div 1 (1 + lit 0x3EA7BA05#32 * mag z)

/-- The kernel's polynomial of formula 7.1.26, in nested form, times the Gaussian. -/
def kTail (z : EReal) : EReal :=
  ((((lit 0x3F87DC22#32 * kVar z + lit 0xBFBA00E3#32) * kVar z + lit 0x3FB5F0E3#32) * kVar z + lit 0xBE91A98E#32) * kVar z
      + lit 0x3E827906#32) * kVar z * Ideal.exp ((0 - mag z) * mag z)

/-- The kernel's error function. -/
def kErf (z : EReal) : EReal := kSign z * (1 - kTail z)

/-- The kernel's difference of error functions across cell `k`. -/
def kDiff (s c g : EReal) (k : ℕ) : EReal := kErf (kArg s c g (k + 1)) - kErf (kArg s c g k)

/-- The kernel's raster element. -/
def kRaster (s c g : Fin 3 → EReal) (q : EReal) (i j k : ℕ) : EReal :=
  kDiff (s 0) (c 0) (g 0) i
    * (kDiff (s 1) (c 1) (g 1) j * (kDiff (s 2) (c 2) (g 2) k * (lit 0x3E000000#32 * q)))

/-- The plain cell of the lower corner. -/
def rCorner (s c g : EReal) : EReal := Ideal.liftRound Int.floor (Ideal.div (c - lit 0x40400000#32 * s) g)

/-- The plain argument of the error function at edge `k`. -/
def rArg (s c g : EReal) (k : ℕ) : EReal :=
  Ideal.div ((rCorner s c g + edge k) * g - c) (Ideal.sqrt (lit 0x40000000#32) * s)

/-- Formula 7.1.26, written plainly. -/
def rErf (z : EReal) : EReal :=
  Ideal.sign z *
    (1 - (lit 0x3E827906#32 * kVar z - lit 0x3E91A98E#32 * (kVar z * kVar z)
            + lit 0x3FB5F0E3#32 * (kVar z * kVar z * kVar z)
            - lit 0x3FBA00E3#32 * (kVar z * kVar z * kVar z * kVar z)
            + lit 0x3F87DC22#32 * (kVar z * kVar z * kVar z * kVar z * kVar z))
          * Ideal.exp (-(mag z * mag z)))

/-- The normal cumulative distribution of an argument already divided by the square root of two, by the error
    function `E`. -/
def cdf (E : EReal → EReal) (z : EReal) : EReal := lit 0x3F000000#32 * (1 + E z)

/-- The plain probability of cell `k`, by the error function `E`. -/
def rDiff (E : EReal → EReal) (s c g : EReal) (k : ℕ) : EReal :=
  cdf E (rArg s c g (k + 1)) - cdf E (rArg s c g k)

/-- The plain raster element, by the error function `E`. -/
def rRaster (E : EReal → EReal) (s c g : Fin 3 → EReal) (q : EReal) (i j k : ℕ) : EReal :=
  q * rDiff E (s 0) (c 0) (g 0) i * rDiff E (s 1) (c 1) (g 1) j * rDiff E (s 2) (c 2) (g 2) k

end Cert.Proof.Model

end
-- ==== Proof.Block.lean ====
/- What the kernel body leaves in its two output blocks, read at an index, as the scalar functions of the model. -/
module

public import proofs.«01_k».proof.Proof.Model
public import proofs.«01_k».proof.Proof.Gen.KernelIdeal.Frame
public import Idealize.ShloMosaic.Lib.Pointwise
public import Idealize.ShloMosaic.Lib.Pipeline.ValueKit

@[expose] public section

noncomputable section

namespace Cert.Proof.Block

open Cert.KernelIdeal Cert.KernelIdeal.Gen Cert.Proof.Model Idealize.ShloMosaic Idealize.ShloMosaic.TcCoe
  Idealize.SL.Sem

/-- The named constant of the kernel is the reciprocal square root of two. -/
theorem named_value :
    Named.named (F := Ideal) (φ := .f32) κ "inv_sqrt_two" 0x3F3504F3#32 = invSqrtTwo :=
  IdealRules.named_const.ideal_named_scalar _ _ _ _ rfl

section Rows

variable (v1 : FVec Ideal S3x1 .f32) (v6 v14 : FVec Ideal S3x4000 .f32) (v19 : FVec Ideal S16x1 .f32)
  (v21 : FVec Ideal S3x4000 .f32) (v34 v44 v46 : FVec Ideal S16x4000 .f32)

/-- The sign stage at an index is the model's sign of the argument there. -/
theorem sign_apply (j : S48x4000.Idx) :
    k0_pay14 (F := Ideal) v1 v6 v14 v19 v21 v34 v44 v46 j = kSign (k0_pay13 v1 v6 v14 v19 v21 v34 v44 v46 j) := by
  pointwise [k0_pay14, kSign]

/-- The polynomial stage at an index is the model's polynomial of the argument there. -/
theorem tail_apply (j : S48x4000.Idx) :
    k0_pay15 (F := Ideal) v1 v6 v14 v19 v21 v34 v44 v46 j = kTail (k0_pay13 v1 v6 v14 v19 v21 v34 v44 v46 j) := by
  pointwise [k0_pay15, kTail, kVar]

end Rows

/-- The 48 stacked arguments of the error function, of one block. -/
def stacked (g : Vec Ideal S3x1 .f32) (st : Vec Ideal S1x7x4000 .f32) : FVec Ideal S48x4000 .f32 :=
  k0_pay13 (k0_pay2 g) (k0_pay5 st) (k0_pay6 g st) (k0_pay8 (F := Ideal)) (k0_pay9 st) (k0_pay10 g st) (k0_pay11 g st)
    (k0_pay12 st)

/-- Rows 0 to 15 are the arguments of the first axis. -/
theorem stacked_0 (g : Vec Ideal S3x1 .f32) (st : Vec Ideal S1x7x4000 .f32) (r : Fin 48) (l : Fin 4000) (k : ℕ)
    (hk : k < 16) (hr : r.val = k) :
    stacked g st (ix2 r l) = kArg (st (ix3 0 0 l)) (st (ix3 0 3 l)) (g (ix2 0 0)) k := by
  subst hr
  pointwise [stacked, k0_pay13, k0_pay10, k0_pay8, k0_pay9, k0_pay6, k0_pay5, k0_pay4, k0_pay3, k0_pay2, kArg, kCorner]
  rw [dif_pos hk, named_value]; rfl

/-- Rows 16 to 31 are the arguments of the second axis. -/
theorem stacked_1 (g : Vec Ideal S3x1 .f32) (st : Vec Ideal S1x7x4000 .f32) (r : Fin 48) (l : Fin 4000) (k : ℕ)
    (hk : k < 16) (hr : r.val = 16 + k) :
    stacked g st (ix2 r l) = kArg (st (ix3 0 1 l)) (st (ix3 0 4 l)) (g (ix2 1 0)) k := by
  obtain rfl : k = r.val - 16 := by omega
  pointwise [stacked, k0_pay13, k0_pay11, k0_pay12, k0_pay8, k0_pay9, k0_pay6, k0_pay5, k0_pay4, k0_pay3, k0_pay2, kArg, kCorner]
  rw [dif_neg (by omega), dif_pos hk, named_value]; rfl

/-- Rows 32 to 47 are the arguments of the third axis. -/
theorem stacked_2 (g : Vec Ideal S3x1 .f32) (st : Vec Ideal S1x7x4000 .f32) (r : Fin 48) (l : Fin 4000) (k : ℕ)
    (hk : k < 16) (hr : r.val = 32 + k) :
    stacked g st (ix2 r l) = kArg (st (ix3 0 2 l)) (st (ix3 0 5 l)) (g (ix2 2 0)) k := by
  obtain rfl : k = r.val - 16 - 16 := by omega
  pointwise [stacked, k0_pay13, k0_pay8, k0_pay9, k0_pay6, k0_pay5, k0_pay4, k0_pay3, k0_pay2, kArg, kCorner]
  rw [dif_neg (by omega), dif_neg (by omega), named_value]; rfl

/-- The difference block of the kernel as one function of a block's rows. -/
def diffBlock (g : Vec Ideal S3x1 .f32) (x : Fin 7 → EReal) (r : ℕ) : EReal :=
  if r < 8 then kDiff (x 0) (x 3) (g (ix2 0 0)) r
  else if r < 16 then kDiff (x 1) (x 4) (g (ix2 1 0)) (r - 8)
  else kDiff (x 2) (x 5) (g (ix2 2 0)) (r - 16) * (lit 0x3E000000#32 * x 6)

/-- The stored block of differences, read at an index. -/
theorem diff_apply (g : Vec Ideal S3x1 .f32) (st : Vec Ideal S1x7x4000 .f32) (r : Fin 24) (l : Fin 4000) :
    k0_pay1 (F := Ideal) (k0_pay3 st)
      (k0_pay14 (k0_pay2 g) (k0_pay5 st) (k0_pay6 g st) (k0_pay8 (F := Ideal)) (k0_pay9 st) (k0_pay10 g st)
        (k0_pay11 g st) (k0_pay12 st))
      (k0_pay15 (k0_pay2 g) (k0_pay5 st) (k0_pay6 g st) (k0_pay8 (F := Ideal)) (k0_pay9 st) (k0_pay10 g st)
        (k0_pay11 g st) (k0_pay12 st)) (ix3 0 r l)
      = diffBlock g (fun a => st (ix3 0 a l)) r := by
  generalize hs : k0_pay14 (k0_pay2 g) (k0_pay5 st) (k0_pay6 g st) (k0_pay8 (F := Ideal)) (k0_pay9 st) (k0_pay10 g st)
        (k0_pay11 g st) (k0_pay12 st) = sg
  generalize ht : k0_pay15 (k0_pay2 g) (k0_pay5 st) (k0_pay6 g st) (k0_pay8 (F := Ideal)) (k0_pay9 st) (k0_pay10 g st)
        (k0_pay11 g st) (k0_pay12 st) = tl
  have he : ∀ j, sg j * (1 - tl j) = kErf (stacked g st j) := fun j => by
    rw [← hs, ← ht, sign_apply, tail_apply]; rfl
  pointwise [k0_pay1, k0_pay3]
  unfold diffBlock kDiff
  simp only [he]
  by_cases h8 : r.val < 8
  · rw [dif_pos h8, if_pos h8, stacked_0 g st _ l (r.val + 1) (by omega) (by simp only []; omega),
      stacked_0 g st _ l r.val (by omega) rfl]
  · rw [dif_neg h8, if_neg h8]
    by_cases h16 : r.val < 16
    · rw [dif_pos (by omega), if_pos h16, stacked_1 g st _ l (r.val - 8 + 1) (by omega) (by simp only []; omega),
        stacked_1 g st _ l (r.val - 8) (by omega) rfl]
    · rw [dif_neg (by omega), if_neg h16, stacked_2 g st _ l (r.val - 16 + 1) (by omega) (by simp only []; omega),
        stacked_2 g st _ l (r.val - 16) (by omega) (by simp only []; omega)]

/-- The stored block of corner cells, read at an index. -/
theorem corner_apply (g : Vec Ideal S3x1 .f32) (st : Vec Ideal S1x7x4000 .f32) (a : Fin 3) (l : Fin 4000) :
    k0_pay7 (F := Ideal) g st (ix3 0 a l)
      = FloatOps.fptosi (F := Ideal) (φ := .f32) 32
          (kCorner (st (ix3 0 ⟨a.val, by omega⟩ l)) (st (ix3 0 ⟨3 + a.val, by omega⟩ l)) (g (ix2 a 0))) := by
  pointwise [k0_pay7, k0_pay6, k0_pay5, k0_pay4, k0_pay3, k0_pay2, kCorner]

end Cert.Proof.Block

end
-- ==== Proof.Run.lean ====
/- The kernel program's two results, each element as the model's function of the elements of the argument arrays: the
   stacked operand before the region (`stack_apply`), the two arrays that the region leaves (`final2`, `final3`) and the
   host operations after it (`run`). -/
module

public import proofs.«01_k».proof.Proof.Block
public import Idealize.ShloMosaic.Lib.Claim
public import Idealize.ShloMosaic.Lib.StableHlo.ReadAt

@[expose] public section

noncomputable section

namespace Cert.Proof.Run

open Cert.KernelIdeal Cert.KernelIdeal.Gen Cert.Proof.Model Cert.Proof.Block Idealize.ShloMosaic
  Idealize.ShloMosaic.TcCoe Idealize.SL.Sem

variable (m : (ℓ : Loc nD τ sig) → Buf (Elt Ideal) ℓ) (ρ : Dev nD → PrngReg)

/-! ## The operands as the region finds them -/

/-- The grid spacing operand, read at an index. -/
theorem grid_apply (c : Dev nD) (a : Fin 3) :
    (V m c main_v0 : Vec Ideal S3x1 .f32) (ix2 a 0) = (m ((c : Thread nD τ).loc main_arg4) : Vec Ideal S3 .f32) (ix1 a) := by
  unfold V V0
  after_reads_at

/-- Row `r` of the stacked operand. -/
def stackRow (c : Dev nD) (n : Fin 100000) (r : ℕ) : EReal :=
  match r with
  | 0 => (m ((c : Thread nD τ).loc main_arg0) : Vec Ideal S100000x3 .f32) (ix2 n 0)
  | 1 => (m ((c : Thread nD τ).loc main_arg0) : Vec Ideal S100000x3 .f32) (ix2 n 1)
  | 2 => (m ((c : Thread nD τ).loc main_arg0) : Vec Ideal S100000x3 .f32) (ix2 n 2)
  | 3 => (m ((c : Thread nD τ).loc main_arg3) : Vec Ideal S100000x3 .f32) (ix2 n 1)
  | 4 => (m ((c : Thread nD τ).loc main_arg3) : Vec Ideal S100000x3 .f32) (ix2 n 0)
  | 5 => (m ((c : Thread nD τ).loc main_arg1) : Vec Ideal S100000 .f32) (ix1 n)
  | _ => (m ((c : Thread nD τ).loc main_arg2) : Vec Ideal S100000 .f32) (ix1 n)

/-- The stacked operand, read at an index. -/
theorem stack_apply (c : Dev nD) (b : Fin 25) (r : Fin 7) (l : Fin 4000) :
    (V m c main_v25 : Vec Ideal S25x7x4000 .f32) (ix3 b r l) = stackRow m c ⟨b.val * 4000 + l.val, by omega⟩ r.val := by
  obtain ⟨r, hr⟩ := r
  unfold V V0
  interval_cases r <;> after_reads_at <;> after_reads_at
  all_goals rfl

/-! ## The arrays that the region leaves -/

/-- The array of differences as one function of the operands. -/
def G2 (g : Vec Ideal S3x1 .f32) (st : Vec Ideal S25x7x4000 .f32) : Vec Ideal S25x24x4000 .f32 := fun j =>
  diffBlock g (fun a => st (ix3 (j 0) a (j 2))) (j 1).val

/-- The array of corner cells as one function of the operands. -/
def G3 (g : Vec Ideal S3x1 .f32) (st : Vec Ideal S25x7x4000 .f32) : Vec Ideal S25x3x4000 .i32 := fun j =>
  FloatOps.fptosi (F := Ideal) (φ := .f32) 32
    (kCorner (st (ix3 (j 0) ⟨(j 1).val, by have : (j 1).val < 3 := (j 1).isLt; omega⟩ (j 2)))
      (st (ix3 (j 0) ⟨3 + (j 1).val, by have : (j 1).val < 3 := (j 1).isLt; omega⟩ (j 2))) (g (ix2 (j 1) 0)))

theorem G2_apply (g : Vec Ideal S3x1 .f32) (st : Vec Ideal S25x7x4000 .f32) (b : Fin 25) (r : Fin 24) (l : Fin 4000) :
    G2 g st (ix3 b r l) = diffBlock g (fun a => st (ix3 b a l)) r.val := rfl

theorem G3_apply (g : Vec Ideal S3x1 .f32) (st : Vec Ideal S25x7x4000 .f32) (b : Fin 25) (a : Fin 3) (l : Fin 4000) :
    G3 g st (ix3 b a l) = FloatOps.fptosi (F := Ideal) (φ := .f32) 32
      (kCorner (st (ix3 b ⟨a.val, by omega⟩ l)) (st (ix3 b ⟨3 + a.val, by omega⟩ l)) (g (ix2 a 0))) := rfl

/-- The three groups of rows of the difference block. -/
theorem diffBlock_0 (g : Vec Ideal S3x1 .f32) (x : Fin 7 → EReal) {i : ℕ} (hi : i < 8) :
    diffBlock g x i = kDiff (x 0) (x 3) (g (ix2 0 0)) i := by
  unfold diffBlock; rw [if_pos hi]

theorem diffBlock_1 (g : Vec Ideal S3x1 .f32) (x : Fin 7 → EReal) {j : ℕ} (hj : j < 8) :
    diffBlock g x (8 + j) = kDiff (x 1) (x 4) (g (ix2 1 0)) j := by
  unfold diffBlock; rw [if_neg (by omega), if_pos (by omega), Nat.add_sub_cancel_left]

theorem diffBlock_2 (g : Vec Ideal S3x1 .f32) (x : Fin 7 → EReal) (k : ℕ) :
    diffBlock g x (16 + k) = kDiff (x 2) (x 5) (g (ix2 2 0)) k * (lit 0x3E000000#32 * x 6) := by
  unfold diffBlock; rw [if_neg (by omega), if_neg (by omega), Nat.add_sub_cancel_left]

/-- Each window's block index at a point: the grid spacing whole, the other three at the point. -/
theorem idx0 : ∀ t : Fin cfg0.N, win0_0.index t = ![0, 0] := (by decide +kernel : ∀ t : Fin grid0.N, _)
theorem idx1 : ∀ t : Fin cfg0.N, win0_1.index t = ![t.val, 0, 0] := (by decide +kernel : ∀ t : Fin grid0.N, _)
theorem idx2 : ∀ t : Fin cfg0.N, win0_2.index t = ![t.val, 0, 0] := (by decide +kernel : ∀ t : Fin grid0.N, _)
theorem idx3 : ∀ t : Fin cfg0.N, win0_3.index t = ![t.val, 0, 0] := (by decide +kernel : ∀ t : Fin grid0.N, _)

/-- The grid spacing block at a point is the whole operand. -/
theorem iblk0 (c : Dev nD) (t : Fin cfg0.N) : iblk m c 0 t = V m c main_v0 := by
  blk_ext! [iblk, idx0 t]

/-- The stacked block at a point, read at an index. -/
theorem iblk1 (c : Dev nD) (t : Fin cfg0.N) (r : Fin 7) (l : Fin 4000) :
    iblk m c 1 t (ix3 0 r l) = V m c main_v25 (ix3 ⟨t.val, t.isLt.trans_eq N_0⟩ r l) := by
  blk_ext! [iblk, idx1 t]

theorem hz2 : (![0, 0] : Fin 2 → Nat) = fun _ => 0 := funext fun a => by fin_cases a <;> rfl
theorem hz3 : (![0, 0, 0] : Fin 3 → Nat) = fun _ => 0 := funext fun a => by fin_cases a <;> rfl

/-- The stored block of differences, its loads being the whole blocks. -/
theorem out2_apply (g : Vec Ideal S3x1 .f32) (st : Vec Ideal S1x7x4000 .f32) (r : Fin 24) (l : Fin 4000) :
    out0_2 g st (ix3 0 r l) = diffBlock g (fun a => st (ix3 0 a l)) r := by
  unfold_out out0_2
  rw [View.canon_unit_zero hz3]
  simp only [View.ld_unit_zero (S := S3x1) hz2, View.ld_unit_zero (S := S1x7x4000) hz3]
  exact diff_apply g st r l

/-- The stored block of corner cells, its loads being the whole blocks. -/
theorem out3_apply (g : Vec Ideal S3x1 .f32) (st : Vec Ideal S1x7x4000 .f32) (a : Fin 3) (l : Fin 4000) :
    out0_3 g st (ix3 0 a l) = FloatOps.fptosi (F := Ideal) (φ := .f32) 32
          (kCorner (st (ix3 0 ⟨a.val, by omega⟩ l)) (st (ix3 0 ⟨3 + a.val, by omega⟩ l)) (g (ix2 a 0))) := by
  unfold_out out0_3
  rw [View.canon_unit_zero hz3]
  simp only [View.ld_unit_zero (S := S3x1) hz2, View.ld_unit_zero (S := S1x7x4000) hz3]
  exact corner_apply g st a l

/-- The place of an element of block `t` in its array. -/
theorem emb2 (t : Fin cfg0.N) (r : Fin 24) (l : Fin 4000) :
    (win0_2.blk t).view.emb (ix3 (0 : Fin 1) r l) = ix3 (⟨t.val, t.isLt.trans_eq N_0⟩ : Fin 25) r l := by
  have e := idx2 t
  funext a; apply Fin.ext
  match a with
  | ⟨0, _⟩ => show win0_2.index t (0 : Fin 3) * 1 + 1 * 0 = t.val; rw [e]; simp
  | ⟨1, _⟩ => show win0_2.index t (1 : Fin 3) * 24 + 1 * r.val = r.val; rw [e]; simp
  | ⟨2, _⟩ => show win0_2.index t (2 : Fin 3) * 4000 + 1 * l.val = l.val; rw [e]; simp

/-- The array of differences after the run. -/
theorem final2 (c : Dev nD) : (dats m 0 c).arrAt 2 cfg0.N = G2 (V m c main_v0) (V m c main_v25) := by
  refine (dats m 0 c).arrAt_eq_of_covers 2 _ (by decide +kernel) fun t hf y => ?_
  blk_simp
  rw [after0_2]
  obtain ⟨u, r, l, rfl⟩ : ∃ (u : Fin 1) (r : Fin 24) (l : Fin 4000), y = ix3 u r l := ⟨y 0, y 1, y 2, eq_ix3 y⟩
  obtain rfl : u = 0 := Subsingleton.elim _ _
  rw [out2_apply, iblk0]
  simp only [iblk1]
  unfold G2
  rw [emb2 t r l]
  rfl

/-- The place of an element of block `t` in its array. -/
theorem emb3 (t : Fin cfg0.N) (r : Fin 3) (l : Fin 4000) :
    (win0_3.blk t).view.emb (ix3 (0 : Fin 1) r l) = ix3 (⟨t.val, t.isLt.trans_eq N_0⟩ : Fin 25) r l := by
  have e := idx3 t
  funext a; apply Fin.ext
  match a with
  | ⟨0, _⟩ => show win0_3.index t (0 : Fin 3) * 1 + 1 * 0 = t.val; rw [e]; simp
  | ⟨1, _⟩ => show win0_3.index t (1 : Fin 3) * 3 + 1 * r.val = r.val; rw [e]; simp
  | ⟨2, _⟩ => show win0_3.index t (2 : Fin 3) * 4000 + 1 * l.val = l.val; rw [e]; simp

/-- The array of corner cells after the run. -/
theorem final3 (c : Dev nD) : (dats m 0 c).arrAt 3 cfg0.N = G3 (V m c main_v0) (V m c main_v25) := by
  refine (dats m 0 c).arrAt_eq_of_covers 3 _ (by decide +kernel) fun t hf y => ?_
  blk_simp
  rw [after0_3]
  obtain ⟨u, r, l, rfl⟩ : ∃ (u : Fin 1) (r : Fin 3) (l : Fin 4000), y = ix3 u r l := ⟨y 0, y 1, y 2, eq_ix3 y⟩
  obtain rfl : u = 0 := Subsingleton.elim _ _
  rw [out3_apply, iblk0]
  simp only [iblk1]
  unfold G3
  rw [emb3 t r l]
  rfl

/-! ## The host operations after the region -/

variable (W : Valuation τ sig (Elt Ideal))

/-- An element of the raster result, off the array of differences. -/
def rasterOf (D : Vec Ideal S25x24x4000 .f32) (n : Fin 100000) (i j k : Fin 8) : EReal :=
  D (ix3 ⟨n.val / 4000, by omega⟩ ⟨i.val, by omega⟩ ⟨n.val % 4000, by omega⟩)
    * (D (ix3 ⟨n.val / 4000, by omega⟩ ⟨8 + j.val, by omega⟩ ⟨n.val % 4000, by omega⟩)
      * D (ix3 ⟨n.val / 4000, by omega⟩ ⟨16 + k.val, by omega⟩ ⟨n.val % 4000, by omega⟩))

/-- The raster result read at an index, off the array of differences. -/
theorem tail_raster (n : Fin 100000) (i j k : Fin 8) :
    (StableHlo.after hostOps1 W (Proc.devRef .tc main_v47) : Vec Ideal S100000x8x8x8 .f32) (ix4 n i j k)
      = rasterOf (W (Proc.devRef .tc main_v26_0)) n i j k := by
  unfold rasterOf
  after_reads_at
  rfl

/-- The offset result read at an index, off the array of corner cells. -/
theorem tail_offset (n : Fin 100000) (a : Fin 3) :
    (StableHlo.after hostOps1 W (Proc.devRef .tc main_v49) : Vec Ideal S100000x3 .i32) (ix2 n a)
      = (W (Proc.devRef .tc main_v26_1) : Vec Ideal S25x3x4000 .i32)
          (ix3 ⟨n.val / 4000, by omega⟩ a ⟨n.val % 4000, by omega⟩) := by
  after_reads_at

/-! ## The results as functions of the arguments -/

/-- The centre of depo `n` on each axis: the two transverse tail coordinates, then the time. -/
def centre (x1 : Vec Ideal S100000 .f32) (x3 : Vec Ideal S100000x3 .f32) (n : Fin 100000) : Fin 3 → EReal :=
  ![x3 (ix2 n 1), x3 (ix2 n 0), x1 (ix1 n)]

/-- The raster result of the kernel. -/
def kRasters (x0 : Vec Ideal S100000x3 .f32) (x1 x2 : Vec Ideal S100000 .f32) (x3 : Vec Ideal S100000x3 .f32)
    (x4 : Vec Ideal S3 .f32) : Vec Ideal S100000x8x8x8 .f32 := fun j =>
  kRaster (fun a => x0 (ix2 (j 0) a)) (centre x1 x3 (j 0)) (fun a => x4 (ix1 a)) (x2 (ix1 (j 0)))
    (j 1).val (j 2).val (j 3).val

/-- The offset result of the kernel. -/
def kOffsets (x0 : Vec Ideal S100000x3 .f32) (x1 : Vec Ideal S100000 .f32) (x3 : Vec Ideal S100000x3 .f32)
    (x4 : Vec Ideal S3 .f32) : Vec Ideal S100000x3 .i32 := fun j =>
  FloatOps.fptosi (F := Ideal) (φ := .f32) 32 (kCorner (x0 j) (centre x1 x3 (j 0) (j 1)) (x4 (ix1 (j 1))))

/-- The region's two arrays, read through the valuation that the later host operations start from. -/
theorem entry2 (c : Dev nD) :
    Pipeline.withArrays spec0 c (V0 m c) (fun w => (dats m 0 c).arrAt w cfg0.N) (Proc.devRef .tc main_v26_0)
      = G2 (V m c main_v0) (V m c main_v25) :=
  (Pipeline.withArrays_arr spec0 launch0.win.arr_inj c (V0 m c) _ 2).trans (final2 m c)

theorem entry3 (c : Dev nD) :
    Pipeline.withArrays spec0 c (V0 m c) (fun w => (dats m 0 c).arrAt w cfg0.N) (Proc.devRef .tc main_v26_1)
      = G3 (V m c main_v0) (V m c main_v25) :=
  (Pipeline.withArrays_arr spec0 launch0.win.arr_inj c (V0 m c) _ 3).trans (final3 m c)

/-- A place of the stacked operand, by the depo's number. -/
theorem stack_at (c : Dev nD) (n : Fin 100000) (r : Fin 7) :
    (V m c main_v25 : Vec Ideal S25x7x4000 .f32) (ix3 ⟨n.val / 4000, by omega⟩ r ⟨n.val % 4000, by omega⟩)
      = stackRow m c n r.val := by
  rw [stack_apply]
  congr 1
  exact Fin.ext (by simp only []; omega)

/-- The raster result after the run. -/
theorem raster_eq (c : Dev nD) :
    Pipeline.afterTail₀ cfgs (dats m) 0 (V0 m) [hostOps1] c main_v47
      = kRasters (m ((c : Thread nD τ).loc main_arg0)) (m ((c : Thread nD τ).loc main_arg1))
          (m ((c : Thread nD τ).loc main_arg2)) (m ((c : Thread nD τ).loc main_arg3))
          (m ((c : Thread nD τ).loc main_arg4)) := by
  funext y
  obtain ⟨n, i, j, k, rfl⟩ : ∃ (n : Fin 100000) (i j k : Fin 8), y = ix4 n i j k := ⟨y 0, y 1, y 2, y 3, eq_ix4 y⟩
  refine (tail_raster _ n i j k).trans ?_
  erw [entry2 m c]
  unfold rasterOf
  rw [G2_apply, G2_apply, G2_apply, diffBlock_0 _ _ i.isLt, diffBlock_1 _ _ j.isLt, diffBlock_2]
  beta_reduce
  rw [stack_at, stack_at, stack_at, stack_at, stack_at, stack_at, stack_at, grid_apply, grid_apply, grid_apply]
  rfl

/-- The offset result after the run. -/
theorem offset_eq (c : Dev nD) :
    Pipeline.afterTail₀ cfgs (dats m) 0 (V0 m) [hostOps1] c main_v49
      = kOffsets (m ((c : Thread nD τ).loc main_arg0)) (m ((c : Thread nD τ).loc main_arg1))
          (m ((c : Thread nD τ).loc main_arg3)) (m ((c : Thread nD τ).loc main_arg4)) := by
  funext y
  obtain ⟨n, a, rfl⟩ : ∃ (n : Fin 100000) (a : Fin 3), y = ix2 n a := ⟨y 0, y 1, eq_ix2 y⟩
  refine (tail_offset _ n a).trans ?_
  erw [entry3 m c]
  rw [G3_apply, stack_at, stack_at, grid_apply]
  unfold kOffsets
  fin_cases a <;> rfl

/-- The kernel's run: it ends with the two results at the model's values. -/
theorem run : θ_run defs (onTc (τ := τ) (main (F := Ideal))) ⟨m, fun _ => 0, ρ⟩ (fun r => ∀ c : Dev nD,
    r.2.mem ((c.tc : Thread nD τ).loc main_v47)
      = kRasters (m ((c : Thread nD τ).loc main_arg0)) (m ((c : Thread nD τ).loc main_arg1))
          (m ((c : Thread nD τ).loc main_arg2)) (m ((c : Thread nD τ).loc main_arg3))
          (m ((c : Thread nD τ).loc main_arg4))
    ∧ r.2.mem ((c.tc : Thread nD τ).loc main_v49)
      = kOffsets (m ((c : Thread nD τ).loc main_arg0)) (m ((c : Thread nD τ).loc main_arg1))
          (m ((c : Thread nD τ).loc main_arg3)) (m ((c : Thread nD τ).loc main_arg4))) :=
  (θ_run defs _ _).mono (fun _ h c =>
    ⟨((h c).2 main_v47 (Pipeline.mem_restRefs_of main_v47 (by decide) (by decide))).trans (raster_eq m c),
     ((h c).2 main_v49 (Pipeline.mem_restRefs_of main_v49 (by decide) (by decide))).trans (offset_eq m c)⟩)
    (Gen.run_main m ρ)

end Cert.Proof.Run

end
-- ==== Proof.Ref.lean ====
/- The reference program's two results, each element as the model's plain function of the elements of the argument arrays:
   its host operations are read stage by stage. -/
module

public import proofs.«01_k».proof.Proof.Model
public import proofs.«01_k».proof.Proof.Gen.ReferenceIdeal.Read
public import Idealize.ShloMosaic.Lib.Pointwise

@[expose] public section

noncomputable section

namespace Cert.Proof.Ref

open Cert.ReferenceIdeal Cert.ReferenceIdeal.Read Cert.Proof.Model Idealize.ShloMosaic Idealize.ShloMosaic.TcCoe

variable (x0 : Vec Ideal S100000x3 .f32) (x1 x2 : Vec Ideal S100000 .f32) (x3 : Vec Ideal S100000x3 .f32)
    (x4 : Vec Ideal S3 .f32)

/-- The centre of depo `n` on each axis: the two transverse tail coordinates, then the time. -/
def centre (n : Fin 100000) : Fin 3 → EReal := ![x3 (ix2 n 1), x3 (ix2 n 0), x1 (ix1 n)]

theorem centre_apply (n : Fin 100000) (a : Fin 3) : val_main_v7 (F := Ideal) x1 x3 (ix2 n a) = centre x1 x3 n a := by
  pointwise [val_main_v7, val_main_v6, val_main_v5, val_main_v4, val_main_v3, val_main_v2, val_main_v1, val_main_v0]
  fin_cases a <;> rfl

theorem corner_apply (n : Fin 100000) (a : Fin 3) :
    val_main_v14 (F := Ideal) x0 x1 x3 x4 (ix2 n a) = rCorner (x0 (ix2 n a)) (centre x1 x3 n a) (x4 (ix1 a)) := by
  rw [← centre_apply]
  generalize h : val_main_v7 (F := Ideal) x1 x3 = y
  pointwise [val_main_v14, val_main_v13, val_main_v12, val_main_v11, val_main_v10, val_main_v9, val_main_v8,
    val_main_cst, h, rCorner]

theorem arg_apply (n : Fin 100000) (a : Fin 3) (e : Fin 9) :
    val_main_v32 (F := Ideal) x0 x1 x3 x4 (ix3 n a e)
      = rArg (x0 (ix2 n a)) (centre x1 x3 n a) (x4 (ix1 a)) e.val := by
  unfold rArg
  rw [← corner_apply, ← centre_apply]
  generalize h : val_main_v7 (F := Ideal) x1 x3 = y
  generalize h14 : val_main_v14 (F := Ideal) x0 x1 x3 x4 = z
  pointwise [val_main_v32, val_main_v31, val_main_v30, val_main_v29, val_main_v28, val_main_v27, val_main_v26,
    val_main_v25, val_main_v24, val_main_v23, val_main_v22, val_main_v21, val_main_v20, val_main_v19, val_main_v18,
    val_main_v17, val_main_v16, val_main_v15, val_main_cst_0, h, h14]
  rfl

theorem cdf_apply (j : S100000x3x9.Idx) :
    val_main_v75 (F := Ideal) x0 x1 x3 x4 j = cdf rErf (val_main_v32 (F := Ideal) x0 x1 x3 x4 j) := by
  generalize h : val_main_v32 (F := Ideal) x0 x1 x3 x4 = y
  pointwise [val_main_v75, val_main_v74, val_main_cst_11, val_main_v73, val_main_v72, val_main_cst_10, val_main_v71,
    val_main_v70, val_main_v69, val_main_v68, val_main_cst_9, val_main_v67, val_main_v66, val_main_v65,
    val_main_v64, val_main_v63, val_main_v62, val_main_v61, val_main_cst_8, val_main_v60, val_main_v59,
    val_main_v58, val_main_v57, val_main_v56, val_main_v55, val_main_v54, val_main_cst_7, val_main_v53,
    val_main_v52, val_main_v51, val_main_v50, val_main_v49, val_main_v48, val_main_cst_6, val_main_v47,
    val_main_v46, val_main_v45, val_main_v44, val_main_v43, val_main_cst_5, val_main_v42, val_main_v41,
    val_main_v40, val_main_cst_4, val_main_v39, val_main_v38, val_main_cst_3, val_main_v37, val_main_v36,
    val_main_cst_2, val_main_v35, val_main_v34, val_main_cst_1, val_main_v33, h]
  rfl

/-- The raster result of the reference, read at an index. -/
theorem raster_apply (n : Fin 100000) (i j k : Fin 8) :
    val_main_v96 (F := Ideal) x0 x1 x2 x3 x4 (ix4 n i j k)
      = rRaster rErf (fun a => x0 (ix2 n a)) (centre x1 x3 n) (fun a => x4 (ix1 a)) (x2 (ix1 n)) i.val j.val k.val := by
  have hd : ∀ (a : Fin 3) (e : Fin 9) (v : ℕ), e.val = v → val_main_v75 (F := Ideal) x0 x1 x3 x4 (ix3 n a e)
      = cdf rErf (rArg (x0 (ix2 n a)) (centre x1 x3 n a) (x4 (ix1 a)) v) := by
    rintro a e v rfl; rw [cdf_apply, arg_apply]
  unfold rRaster rDiff
  generalize h : val_main_v75 (F := Ideal) x0 x1 x3 x4 = y at hd
  pointwise [val_main_v96, val_main_v95, val_main_v94, val_main_v93, val_main_v92, val_main_v91, val_main_v90,
    val_main_v89, val_main_v88, val_main_v87, val_main_v86, val_main_v85, val_main_v84, val_main_v83,
    val_main_v82, val_main_v81, val_main_v80, val_main_v79, val_main_v78, val_main_v77, val_main_v76, h]
  rw [hd 0 _ (i.val + 1) (Nat.add_comm 1 _), hd 0 _ i.val rfl, hd 1 _ (j.val + 1) (Nat.add_comm 1 _), hd 1 _ j.val rfl,
    hd 2 _ (k.val + 1) (Nat.add_comm 1 _), hd 2 _ k.val rfl]

/-- The offset result of the reference, read at an index. -/
theorem offset_apply (n : Fin 100000) (a : Fin 3) :
    val_main_v97 (F := Ideal) x0 x1 x3 x4 (ix2 n a)
      = FloatOps.fptosi (F := Ideal) (φ := .f32) 32 (rCorner (x0 (ix2 n a)) (centre x1 x3 n a) (x4 (ix1 a))) := by
  rw [← corner_apply]
  generalize h : val_main_v14 (F := Ideal) x0 x1 x3 x4 = y
  pointwise [val_main_v97, h]

end Cert.Proof.Ref

end
-- ==== Proof.Consts.lean ====
/- The float literals of the two programs as real numbers. -/
module

public import proofs.«01_k».proof.Proof.Model

@[expose] public section

noncomputable section

namespace Cert.Proof.Consts

open Cert.Proof.Model Idealize.ShloMosaic

/-- Formula 7.1.26's `p`, as the float nearest to it. -/
def cp : ℝ := 10992133 / 33554432
/-- Its five coefficients, as the floats nearest to them, in magnitude. -/
def c1 : ℝ := 4275331 / 16777216
def c2 : ℝ := 4773063 / 16777216
def c3 : ℝ := 11923683 / 8388608
def c4 : ℝ := 12189923 / 8388608
def c5 : ℝ := 4451857 / 4194304
/-- The tolerance of the property `near`. -/
def tol : ℝ := 8796093 / 17592186044416

theorem lit_p : lit 0x3EA7BA05#32 = (cp : EReal) := by
  simp [Ideal.ofBits, Ideal.ieee, cp, -EReal.coe_mul]; norm_num
theorem lit_1 : lit 0x3E827906#32 = (c1 : EReal) := by
  simp [Ideal.ofBits, Ideal.ieee, c1, -EReal.coe_mul]; norm_num
theorem lit_2 : lit 0x3E91A98E#32 = (c2 : EReal) := by
  simp [Ideal.ofBits, Ideal.ieee, c2, -EReal.coe_mul]; norm_num
theorem lit_2n : lit 0xBE91A98E#32 = ((-c2 : ℝ) : EReal) := by
  simp [Ideal.ofBits, Ideal.ieee, c2, -EReal.coe_mul, -EReal.coe_neg]; norm_num
theorem lit_3 : lit 0x3FB5F0E3#32 = (c3 : EReal) := by
  simp [Ideal.ofBits, Ideal.ieee, c3, -EReal.coe_mul]; norm_num
theorem lit_4 : lit 0x3FBA00E3#32 = (c4 : EReal) := by
  simp [Ideal.ofBits, Ideal.ieee, c4, -EReal.coe_mul]; norm_num
theorem lit_4n : lit 0xBFBA00E3#32 = ((-c4 : ℝ) : EReal) := by
  simp [Ideal.ofBits, Ideal.ieee, c4, -EReal.coe_mul, -EReal.coe_neg]; norm_num
theorem lit_5 : lit 0x3F87DC22#32 = (c5 : EReal) := by
  simp [Ideal.ofBits, Ideal.ieee, c5, -EReal.coe_mul]; norm_num
theorem lit_two : lit 0x40000000#32 = ((2 : ℝ) : EReal) := by
  simp [Ideal.ofBits, Ideal.ieee, -EReal.coe_mul]; norm_num
theorem lit_half : lit 0x3F000000#32 = ((1 / 2 : ℝ) : EReal) := by
  simp [Ideal.ofBits, Ideal.ieee, -EReal.coe_mul]; norm_num
theorem lit_eighth : lit 0x3E000000#32 = ((1 / 8 : ℝ) : EReal) := by
  simp [Ideal.ofBits, Ideal.ieee, -EReal.coe_mul]; norm_num
theorem lit_neg_one : lit 0xBF800000#32 = ((-1 : ℝ) : EReal) := by
  simp [Ideal.ofBits, Ideal.ieee, -EReal.coe_mul, -EReal.coe_neg]; norm_num
theorem lit_tol : lit 0x350637BD#32 = (tol : EReal) := by
  simp [Ideal.ofBits, Ideal.ieee, tol, -EReal.coe_mul]; norm_num

end Cert.Proof.Consts

end
-- ==== Proof.Equation.lean ====
/- The kernel's scalar functions equal the plain ones wherever the width and the cell size are not zero. -/
module

public import proofs.«01_k».proof.Proof.Consts

@[expose] public section

noncomputable section

namespace Cert.Proof.Equation

open Cert.Proof.Model Cert.Proof.Consts Idealize.ShloMosaic

/-! ## The two forms of formula 7.1.26 -/

/-- The polynomial of formula 7.1.26, on the reals. -/
def poly (t : ℝ) : ℝ := c1 * t - c2 * t ^ 2 + c3 * t ^ 3 - c4 * t ^ 4 + c5 * t ^ 5

/-- Formula 7.1.26 on the reals. -/
def asErf (x : ℝ) : ℝ := (SignType.sign x : ℝ) * (1 - poly (1 / (1 + cp * |x|)) * Real.exp (-(x ^ 2)))

theorem mag_coe (r : ℝ) : mag (r : EReal) = ((|r| : ℝ) : EReal) := by
  show max (r : EReal) (-(r : EReal)) = _
  rw [← EReal.coe_neg, ← EReal.coe_strictMono.monotone.map_max]; rfl

theorem mag_top : mag ⊤ = ⊤ := by show max ⊤ (-⊤ : EReal) = _; simp
theorem mag_bot : mag ⊥ = ⊤ := by show max ⊥ (-⊥ : EReal) = _; simp

theorem cp_pos : 0 < cp := by unfold cp; norm_num

theorem kVar_coe (r : ℝ) : kVar (r : EReal) = ((1 / (1 + cp * |r|) : ℝ) : EReal) := by
  have h : 0 < 1 + cp * |r| := by have := mul_nonneg cp_pos.le (abs_nonneg r); linarith
  unfold kVar
  rw [mag_coe, lit_p, ← EReal.coe_mul, ← EReal.coe_one, ← EReal.coe_add, Ideal.div_coe h.ne', ← EReal.coe_mul, one_mul]

theorem kVar_of_mag {z : EReal} (h : mag z = ⊤) : kVar z = 0 := by
  unfold kVar
  rw [h, lit_p, EReal.coe_mul_top_of_pos cp_pos]
  have : (1 : EReal) + ⊤ = ⊤ := by rw [← EReal.coe_one]; exact EReal.coe_add_top 1
  rw [this]
  unfold Ideal.div
  simp

theorem kTail_coe (r : ℝ) : kTail (r : EReal) = ((poly (1 / (1 + cp * |r|)) * Real.exp (-(r ^ 2)) : ℝ) : EReal) := by
  unfold kTail
  rw [kVar_coe, mag_coe, lit_1, lit_2n, lit_3, lit_4n, lit_5, ← EReal.coe_zero, ← EReal.coe_sub,
    ← EReal.coe_mul (0 - |r|), Ideal.exp_coe, zero_sub, neg_mul, ← pow_two, sq_abs]
  simp only [← EReal.coe_mul, ← EReal.coe_add]
  congr 1
  unfold poly
  ring

theorem kTail_of_mag {z : EReal} (h : mag z = ⊤) : kTail z = 0 := by
  unfold kTail
  rw [kVar_of_mag h, h, zero_sub, EReal.neg_top, EReal.bot_mul_top]
  simp

theorem kSign_coe (r : ℝ) : kSign (r : EReal) = ((SignType.sign r : ℝ) : EReal) := by
  unfold kSign
  rw [mag_coe, lit_neg_one]
  rcases lt_trichotomy r 0 with h | h | h
  · rw [if_pos (by exact_mod_cast abs_pos.mpr h.ne), if_pos (by exact_mod_cast h), sign_neg h]; simp
  · subst h; simp
  · rw [if_pos (by exact_mod_cast abs_pos.mpr h.ne'), if_neg (by exact_mod_cast h.not_gt), sign_pos h]; simp

theorem kErf_coe (r : ℝ) : kErf (r : EReal) = (asErf r : EReal) := by
  unfold kErf
  rw [kSign_coe, kTail_coe, ← EReal.coe_one, ← EReal.coe_sub, ← EReal.coe_mul]; rfl

theorem kErf_top : kErf ⊤ = ((1 : ℝ) : EReal) := by
  unfold kErf
  rw [kTail_of_mag mag_top]
  unfold kSign
  rw [mag_top]; simp

theorem kErf_bot : kErf ⊥ = ((-1 : ℝ) : EReal) := by
  unfold kErf
  rw [kTail_of_mag mag_bot]
  unfold kSign
  rw [mag_bot, lit_neg_one]; simp

theorem rErf_coe (r : ℝ) : rErf (r : EReal) = (asErf r : EReal) := by
  unfold rErf
  rw [kVar_coe, mag_coe, lit_1, lit_2, lit_3, lit_4, lit_5, ← EReal.coe_mul |r|, ← EReal.coe_neg, Ideal.exp_coe,
    ← pow_two |r|, sq_abs]
  show ((SignType.sign r : ℝ) : EReal) * _ = _
  simp only [← EReal.coe_mul, ← EReal.coe_add, ← EReal.coe_sub, ← EReal.coe_one]
  congr 1
  unfold asErf poly
  ring

theorem rErf_top : rErf ⊤ = ((1 : ℝ) : EReal) := by
  unfold rErf
  rw [kVar_of_mag mag_top, mag_top, EReal.top_mul_top, EReal.neg_top]
  show (1 : EReal) * _ = _
  simp

theorem rErf_bot : rErf ⊥ = ((-1 : ℝ) : EReal) := by
  unfold rErf
  rw [kVar_of_mag mag_bot, mag_bot, EReal.top_mul_top, EReal.neg_top]
  show (-1 : EReal) * _ = _
  simp

/-- The two forms agree everywhere. -/
theorem rErf_eq (z : EReal) : rErf z = kErf z := by
  induction z with
  | bot => rw [rErf_bot, kErf_bot]
  | coe r => rw [rErf_coe, kErf_coe]
  | top => rw [rErf_top, kErf_top]

/-- The formula's value is finite everywhere. -/
theorem kErf_real (z : EReal) : ∃ r : ℝ, kErf z = (r : EReal) := by
  induction z with
  | bot => exact ⟨_, kErf_bot⟩
  | coe r => exact ⟨_, kErf_coe r⟩
  | top => exact ⟨_, kErf_top⟩

/-! ## The corner and the argument -/

theorem corner_eq (s c : EReal) {g : EReal} (hg : g ≠ 0) : kCorner s c g = rCorner s c g := by
  unfold kCorner rCorner Ideal.div
  rw [if_neg hg, if_neg hg, one_mul]

theorem arg_eq {s : EReal} (c : EReal) {g : EReal} (hs : s ≠ 0) (hg : g ≠ 0) (k : ℕ) :
    kArg s c g k = rArg s c g k := by
  have h2 : Ideal.sqrt (lit 0x40000000#32) = ((Real.sqrt 2 : ℝ) : EReal) := by
    rw [lit_two, Ideal.sqrt_coe, if_neg (by norm_num)]
  have hr : Real.sqrt 2 ≠ 0 := by positivity
  unfold kArg rArg
  rw [corner_eq s c hg, h2]
  unfold Ideal.div invSqrtTwo
  rw [if_neg hs, if_neg (mul_ne_zero (by exact_mod_cast hr) hs), EReal.mul_inv, EReal.coe_inv]

/-! ## The raster element -/

theorem cdf_real {E : EReal → EReal} {z : EReal} {e : ℝ} (h : E z = (e : EReal)) :
    cdf E z = ((1 / 2 * (1 + e) : ℝ) : EReal) := by
  unfold cdf
  rw [h, lit_half, ← EReal.coe_one, ← EReal.coe_add, ← EReal.coe_mul]

theorem rDiff_eq {s : EReal} (c : EReal) {g : EReal} (hs : s ≠ 0) (hg : g ≠ 0) (k : ℕ) :
    rDiff rErf s c g k = lit 0x3F000000#32 * kDiff s c g k := by
  unfold rDiff kDiff
  rw [arg_eq c hs hg, arg_eq c hs hg]
  obtain ⟨a, ha⟩ := kErf_real (rArg s c g (k + 1))
  obtain ⟨b, hb⟩ := kErf_real (rArg s c g k)
  rw [cdf_real ((rErf_eq _).trans ha), cdf_real ((rErf_eq _).trans hb), ha, hb, lit_half, ← EReal.coe_sub,
    ← EReal.coe_sub, ← EReal.coe_mul]
  congr 1
  ring

/-- The kernel's raster element is the plain one with the error function of formula 7.1.26. -/
theorem raster_eq {s g : Fin 3 → EReal} (c : Fin 3 → EReal) (q : EReal) (hs : ∀ a, s a ≠ 0) (hg : ∀ a, g a ≠ 0)
    (i j k : ℕ) : kRaster s c g q i j k = rRaster rErf s c g q i j k := by
  have h8 : lit 0x3E000000#32 = lit 0x3F000000#32 * (lit 0x3F000000#32 * lit 0x3F000000#32) := by
    rw [lit_eighth, lit_half, ← EReal.coe_mul, ← EReal.coe_mul]; norm_num
  unfold kRaster rRaster
  rw [rDiff_eq _ (hs 0) (hg 0), rDiff_eq _ (hs 1) (hg 1), rDiff_eq _ (hs 2) (hg 2), h8]
  generalize lit 0x3F000000#32 = h
  ac_rfl

end Cert.Proof.Equation

end
-- ==== Proof.Gauss.lean ====
/- The integral of the Gaussian from zero: its derivative, and bounds by the alternating power series;
   and bounds of π by those of the sine. -/
module

public import Mathlib.MeasureTheory.Integral.IntervalIntegral.Basic
public import Mathlib.Analysis.SpecialFunctions.ExpDeriv
public import Mathlib.Analysis.SpecialFunctions.Trigonometric.Basic
public import Mathlib.Analysis.Calculus.Deriv.MeanValue
public import Mathlib.Analysis.Calculus.Deriv.Pow

@[expose] public section

noncomputable section

namespace Cert.Proof.Gauss

open Filter Topology

/-- The Gaussian. -/
def gauss (x : ℝ) : ℝ := Real.exp (-(x ^ 2))

/-- Its integral from zero. -/
def area (x : ℝ) : ℝ := ∫ s in (0 : ℝ)..x, Real.exp (-(s ^ 2))

theorem gauss_pos (x : ℝ) : 0 < gauss x := Real.exp_pos _

theorem gauss_le_one (x : ℝ) : gauss x ≤ 1 := Real.exp_le_one_iff.mpr (neg_nonpos.mpr (sq_nonneg x))

theorem gauss_cont : Continuous gauss := by unfold gauss; fun_prop

theorem gauss_deriv (x : ℝ) : HasDerivAt gauss (-(2 * x) * gauss x) x := by
  have h := ((hasDerivAt_pow 2 x).neg).exp
  refine h.congr_deriv ?_
  simp only [Pi.neg_apply, gauss]
  norm_num
  ring

theorem area_deriv (x : ℝ) : HasDerivAt area (gauss x) x := by
  rw [hasDerivAt_iff_isLittleO, Asymptotics.isLittleO_iff]
  intro c hc
  obtain ⟨d, hd, h⟩ := Metric.continuous_iff.mp gauss_cont x c hc
  filter_upwards [Metric.ball_mem_nhds x hd] with y hy
  have e : area y - area x - (y - x) • gauss x = ∫ s in x..y, (gauss s - gauss x) := by
    rw [intervalIntegral.integral_sub (gauss_cont.intervalIntegrable _ _) intervalIntegrable_const,
      intervalIntegral.integral_const]
    congr 1
    exact intervalIntegral.integral_interval_sub_left (gauss_cont.intervalIntegrable _ _)
      (gauss_cont.intervalIntegrable _ _)
  rw [e, Real.norm_eq_abs (y - x)]
  refine intervalIntegral.norm_integral_le_of_norm_le_const fun s hs => ?_
  have hb : |y - x| < d := by simpa [Real.dist_eq] using hy
  have hs' : |s - x| ≤ |y - x| := by
    rcases Set.mem_uIoc.mp hs with ⟨h1, h2⟩ | ⟨h1, h2⟩
    · rw [abs_of_nonneg (by linarith), abs_of_nonneg (by linarith)]; linarith
    · rw [abs_of_nonpos (by linarith), abs_of_nonpos (by linarith)]; linarith
  have := h s (by rw [Real.dist_eq]; linarith)
  rw [Real.dist_eq] at this
  exact this.le

theorem area_zero : area 0 = 0 := by simp [area]

theorem area_mono : Monotone area :=
  monotone_of_deriv_nonneg (fun x => (area_deriv x).differentiableAt) fun x => by
    rw [(area_deriv x).deriv]; exact (gauss_pos x).le

theorem area_nonneg {x : ℝ} (h : 0 ≤ x) : 0 ≤ area x := area_zero ▸ area_mono h

/-- The integral is odd. -/
theorem area_neg (x : ℝ) : area (-x) = -area x := by
  unfold area
  rw [intervalIntegral.integral_symm]
  congr 1
  have := intervalIntegral.integral_comp_neg (a := 0) (b := x) (fun s => Real.exp (-(s ^ 2)))
  simpa using this.symm

/-! ## The alternating series -/

/-- A function that is zero at zero and has a derivative of one sign from zero on has that sign. -/
theorem nonneg_of_deriv {f f' : ℝ → ℝ} (h0 : f 0 = 0) (hf : ∀ x, HasDerivAt f (f' x) x) (hp : ∀ x, 0 ≤ x → 0 ≤ f' x)
    {x : ℝ} (hx : 0 ≤ x) : 0 ≤ f x := by
  have := monotoneOn_of_deriv_nonneg (convex_Ici (0 : ℝ)) (fun y _ => (hf y).continuousAt.continuousWithinAt)
    (fun y _ => (hf y).differentiableAt.differentiableWithinAt)
    (fun y hy => by rw [(hf y).deriv]; rw [interior_Ici] at hy; exact hp y (le_of_lt hy))
    (Set.mem_Ici.mpr le_rfl) (Set.mem_Ici.mpr hx) hx
  rwa [h0] at this

/-- The first `n` terms of the series of e^{-y}. -/
def expSum (n : ℕ) (y : ℝ) : ℝ := ∑ i ∈ Finset.range n, (-y) ^ i / (i.factorial : ℝ)

theorem expSum_deriv (n : ℕ) (y : ℝ) : HasDerivAt (expSum (n + 1)) (-expSum n y) y := by
  induction n with
  | zero =>
    have : expSum 1 = fun _ => 1 := by funext y; simp [expSum]
    rw [this]; simpa [expSum] using hasDerivAt_const y (1 : ℝ)
  | succ n ih =>
    have e : expSum (n + 1 + 1) = fun y => expSum (n + 1) y + (-y) ^ (n + 1) / ((n + 1).factorial : ℝ) := by
      funext y; exact Finset.sum_range_succ _ _
    rw [e]
    have h := ih.add (((hasDerivAt_neg y).pow (n + 1)).div_const ((n + 1).factorial : ℝ))
    refine h.congr_deriv ?_
    have e' : expSum (n + 1) y = expSum n y + (-y) ^ n / (n.factorial : ℝ) := Finset.sum_range_succ _ _
    rw [e', Nat.factorial_succ]
    have : (n.factorial : ℝ) ≠ 0 := by positivity
    push_cast
    field_simp
    ring

/-- The partial sums lie on alternating sides of e^{-y}. -/
theorem exp_alt (n : ℕ) : ∀ {y : ℝ}, 0 ≤ y → 0 ≤ (-1) ^ n * (Real.exp (-y) - expSum n y) := by
  induction n with
  | zero => intro y _; simpa [expSum] using (Real.exp_pos (-y)).le
  | succ n ih =>
    intro y hy
    refine nonneg_of_deriv (f := fun y => (-1) ^ (n + 1) * (Real.exp (-y) - expSum (n + 1) y))
      (f' := fun y => (-1) ^ n * (Real.exp (-y) - expSum n y)) ?_ (fun x => ?_) (fun x hx => ih hx) hy
    · have : expSum (n + 1) 0 = 1 := by
        unfold expSum
        rw [Finset.sum_range_succ']
        simp
      simp [this]
    · have h := (((hasDerivAt_neg x).exp).sub (expSum_deriv n x)).const_mul ((-1 : ℝ) ^ (n + 1))
      refine h.congr_deriv ?_
      rw [pow_succ]; ring

/-- The first `n` terms of the series of the integral. -/
def areaSum (n : ℕ) (x : ℝ) : ℝ := ∑ i ∈ Finset.range n, (-1) ^ i * x ^ (2 * i + 1) / ((2 * i + 1 : ℕ) * (i.factorial : ℝ))

theorem areaSum_deriv (n : ℕ) (x : ℝ) : HasDerivAt (areaSum n) (expSum n (x ^ 2)) x := by
  unfold areaSum expSum
  refine HasDerivAt.fun_sum fun i _ => ?_
  have h := ((hasDerivAt_pow (2 * i + 1) x).const_mul ((-1 : ℝ) ^ i)).div_const ((2 * i + 1 : ℕ) * (i.factorial : ℝ))
  refine h.congr_deriv ?_
  have h1 : (i.factorial : ℝ) ≠ 0 := by positivity
  have h2 : ((2 * i + 1 : ℕ) : ℝ) ≠ 0 := by positivity
  rw [Nat.add_sub_cancel, neg_pow (x ^ 2), ← pow_mul]
  field_simp

/-- The partial sums lie on alternating sides of the integral. -/
theorem area_alt (n : ℕ) {x : ℝ} (hx : 0 ≤ x) : 0 ≤ (-1) ^ n * (area x - areaSum n x) := by
  refine nonneg_of_deriv (f := fun x => (-1) ^ n * (area x - areaSum n x))
    (f' := fun x => (-1) ^ n * (gauss x - expSum n (x ^ 2))) ?_ (fun y => ?_) (fun y _ => exp_alt n (sq_nonneg y)) hx
  · simp [area_zero, areaSum]
  · exact ((area_deriv y).sub (areaSum_deriv n y)).const_mul _

/-- Twice `n` terms are below, one more is above. -/
theorem area_bounds (n : ℕ) {x : ℝ} (hx : 0 ≤ x) : areaSum (2 * n) x ≤ area x ∧ area x ≤ areaSum (2 * n + 1) x := by
  have h := area_alt (2 * n) hx
  have h' := area_alt (2 * n + 1) hx
  rw [pow_succ, pow_mul] at h'
  rw [pow_mul] at h
  norm_num at h h'
  exact ⟨h, h'⟩

theorem gauss_bounds (n : ℕ) (x : ℝ) : expSum (2 * n) (x ^ 2) ≤ gauss x ∧ gauss x ≤ expSum (2 * n + 1) (x ^ 2) := by
  have h := exp_alt (2 * n) (sq_nonneg x)
  have h' := exp_alt (2 * n + 1) (sq_nonneg x)
  rw [pow_succ, pow_mul] at h'
  rw [pow_mul] at h
  norm_num at h h'
  exact ⟨h, h'⟩

/-! ## π -/

theorem sin_deriv (x : ℝ) : HasDerivAt Real.sin (Real.cos x) x := by
  have h : HasDerivAt Complex.sin (Complex.cos x) (x : ℂ) := by
    have h1 := ((hasDerivAt_id (x : ℂ)).neg.mul_const Complex.I).cexp
    have h2 := ((hasDerivAt_id (x : ℂ)).mul_const Complex.I).cexp
    have h3 := ((h1.sub h2).mul_const Complex.I).div_const 2
    refine h3.congr_deriv ?_
    simp only [id, Pi.neg_apply]
    have := Complex.I_mul_I
    unfold Complex.cos
    linear_combination (-(Complex.exp (-(x : ℂ) * Complex.I)) / 2 - Complex.exp ((x : ℂ) * Complex.I) / 2) * this
  exact h.real_of_complex

theorem cos_deriv (x : ℝ) : HasDerivAt Real.cos (-Real.sin x) x := by
  have e : Real.cos = fun y => Real.sin (Real.pi / 2 - y) := by funext y; exact (Real.sin_pi_div_two_sub y).symm
  rw [e]
  have h := (sin_deriv (Real.pi / 2 - x)).comp x ((hasDerivAt_id x).const_sub (Real.pi / 2))
  refine h.congr_deriv ?_
  rw [Real.cos_pi_div_two_sub]; ring

/-- The first `n` terms of the series of the cosine. -/
def cosSum (n : ℕ) (x : ℝ) : ℝ := ∑ i ∈ Finset.range n, (-1) ^ i * x ^ (2 * i) / ((2 * i).factorial : ℝ)

/-- The first `n` terms of the series of the sine. -/
def sinSum (n : ℕ) (x : ℝ) : ℝ := ∑ i ∈ Finset.range n, (-1) ^ i * x ^ (2 * i + 1) / ((2 * i + 1).factorial : ℝ)

theorem sinSum_deriv (n : ℕ) (x : ℝ) : HasDerivAt (sinSum n) (cosSum n x) x := by
  unfold sinSum cosSum
  refine HasDerivAt.fun_sum fun i _ => ?_
  have h := ((hasDerivAt_pow (2 * i + 1) x).const_mul ((-1 : ℝ) ^ i)).div_const ((2 * i + 1).factorial : ℝ)
  refine h.congr_deriv ?_
  have h1 : ((2 * i).factorial : ℝ) ≠ 0 := by positivity
  rw [Nat.add_sub_cancel, Nat.factorial_succ]
  push_cast
  field_simp

theorem cosSum_deriv (n : ℕ) (x : ℝ) : HasDerivAt (cosSum (n + 1)) (-sinSum n x) x := by
  have e : cosSum (n + 1) = fun x => (∑ i ∈ Finset.range n, (-1) ^ (i + 1) * x ^ (2 * (i + 1)) / ((2 * (i + 1)).factorial : ℝ)) + 1 := by
    funext x
    unfold cosSum
    rw [Finset.sum_range_succ']
    simp
  rw [e]
  unfold sinSum
  rw [← Finset.sum_neg_distrib]
  refine HasDerivAt.add_const _ (HasDerivAt.fun_sum fun i _ => ?_)
  have h := ((hasDerivAt_pow (2 * (i + 1)) x).const_mul ((-1 : ℝ) ^ (i + 1))).div_const ((2 * (i + 1)).factorial : ℝ)
  refine h.congr_deriv ?_
  have h1 : ((2 * i + 1).factorial : ℝ) ≠ 0 := by positivity
  have h2 : 2 * (i + 1) = (2 * i + 1) + 1 := by ring
  rw [h2, Nat.add_sub_cancel, Nat.factorial_succ, pow_succ]
  push_cast
  field_simp

/-- The partial sums lie on alternating sides of the sine. -/
theorem trig_alt (n : ℕ) : (∀ {x : ℝ}, 0 ≤ x → 0 ≤ (-1) ^ (n + 1) * (Real.cos x - cosSum (n + 1) x))
    ∧ ∀ {x : ℝ}, 0 ≤ x → 0 ≤ (-1) ^ (n + 1) * (Real.sin x - sinSum (n + 1) x) := by
  have up : ∀ n : ℕ, (∀ {x : ℝ}, 0 ≤ x → 0 ≤ (-1) ^ (n + 1) * (Real.cos x - cosSum (n + 1) x)) →
      ∀ {x : ℝ}, 0 ≤ x → 0 ≤ (-1) ^ (n + 1) * (Real.sin x - sinSum (n + 1) x) := by
    intro n h x hx
    refine nonneg_of_deriv (f := fun x => (-1) ^ (n + 1) * (Real.sin x - sinSum (n + 1) x))
      (f' := fun x => (-1) ^ (n + 1) * (Real.cos x - cosSum (n + 1) x)) ?_ (fun y => ?_) (fun y hy => h hy) hx
    · simp [sinSum]
    · exact ((sin_deriv y).sub (sinSum_deriv _ y)).const_mul _
  induction n with
  | zero =>
    have h0 : ∀ {x : ℝ}, 0 ≤ x → 0 ≤ (-1) ^ (0 + 1) * (Real.cos x - cosSum (0 + 1) x) := by
      intro x _
      simp [cosSum, Real.cos_le_one x]
    exact ⟨h0, up 0 h0⟩
  | succ n ih =>
    have h : ∀ {x : ℝ}, 0 ≤ x → 0 ≤ (-1) ^ (n + 1 + 1) * (Real.cos x - cosSum (n + 1 + 1) x) := by
      intro x hx
      refine nonneg_of_deriv (f := fun x => (-1) ^ (n + 1 + 1) * (Real.cos x - cosSum (n + 1 + 1) x))
        (f' := fun x => (-1) ^ (n + 1) * (Real.sin x - sinSum (n + 1) x)) ?_ (fun y => ?_) (fun y hy => ih.2 hy) hx
      · have : cosSum (n + 1 + 1) 0 = 1 := by
          unfold cosSum
          rw [Finset.sum_range_succ']
          simp
        simp [this]
      · refine (((cos_deriv y).sub (cosSum_deriv _ y)).const_mul _).congr_deriv ?_
        rw [pow_succ _ (n + 1)]; ring
    exact ⟨h, up (n + 1) h⟩

theorem pi_gt : (3.14159265358978 : ℝ) < Real.pi := by
  by_contra hn
  have h6 := Real.sin_pi_div_six
  have hu : Real.sin (3.14159265358978 / 6) < 1 / 2 := by
    have := (trig_alt 8).2 (x := 3.14159265358978 / 6) (by norm_num)
    simp only [sinSum, Finset.sum_range_succ, Finset.sum_range_zero, Nat.factorial] at this
    norm_num at this
    norm_num
    linarith
  have := Real.sin_le_sin_of_le_of_le_pi_div_two (x := Real.pi / 6) (y := 3.14159265358978 / 6)
    (by linarith [Real.pi_pos]) (by linarith [Real.one_le_pi_div_two]) (by linarith)
  linarith

theorem pi_lt : Real.pi < (3.14159265358981 : ℝ) := by
  by_contra hn
  have h6 := Real.sin_pi_div_six
  have hu : 1 / 2 < Real.sin (3.14159265358981 / 6) := by
    have := (trig_alt 7).2 (x := 3.14159265358981 / 6) (by norm_num)
    simp only [sinSum, Finset.sum_range_succ, Finset.sum_range_zero, Nat.factorial] at this
    norm_num at this
    norm_num
    linarith
  have := Real.sin_le_sin_of_le_of_le_pi_div_two (x := 3.14159265358981 / 6) (y := Real.pi / 6)
    (by linarith [Real.pi_pos]) (by linarith [Real.pi_pos]) (by linarith)
  linarith

/-- The factor of the error function. -/
def scale : ℝ := 2 / Real.sqrt Real.pi

theorem scale_bounds : (1.128379167095 : ℝ) ≤ scale ∧ scale ≤ 1.128379167096 := by
  have hp : 0 < Real.sqrt Real.pi := Real.sqrt_pos.mpr Real.pi_pos
  constructor
  · unfold scale
    rw [le_div_iff₀ hp, ← le_div_iff₀' (by norm_num), Real.sqrt_le_left (by norm_num)]
    have := pi_lt
    norm_num
    linarith
  · unfold scale
    rw [div_le_iff₀ hp, ← div_le_iff₀' (by norm_num)]
    refine Real.le_sqrt_of_sq_le ?_
    have := pi_gt
    norm_num
    linarith

end Cert.Proof.Gauss

end
-- ==== Proof.ErfBound.lean ====
/- How far formula 7.1.26 is from the error function. The derivative of the difference is the Gaussian times a polynomial
   in t = 1/(1 + p·x), of degree six with its six roots in (0, 1): so the difference is monotone between seven points, up to
   a small multiple of the Gaussian's integral, and is bounded by its values there. -/
module

public import proofs.«01_k».proof.Proof.Equation
public import proofs.«01_k».proof.Proof.Gauss
public import Mathlib.Analysis.Calculus.Deriv.Inv

@[expose] public section

noncomputable section

namespace Cert.Proof.ErfBound

open Cert.Proof.Consts Cert.Proof.Gauss Cert.Proof.Equation

/-- The variable of the formula. -/
def var (x : ℝ) : ℝ := 1 / (1 + cp * x)

/-- The point whose variable is `r`. -/
def node (r : ℝ) : ℝ := (1 - r) / (cp * r)

/-- The error function minus the formula, from zero on. -/
def err (x : ℝ) : ℝ := scale * area x - 1 + poly (var x) * gauss x

/-- The derivative of `err` over the Gaussian, in the variable of the formula. -/
def slope (t : ℝ) : ℝ :=
  scale - cp * t ^ 2 * (c1 - 2 * c2 * t + 3 * c3 * t ^ 2 - 4 * c4 * t ^ 3 + 5 * c5 * t ^ 4)
    - 2 * (1 - t) / cp * (c1 - c2 * t + c3 * t ^ 2 - c4 * t ^ 3 + c5 * t ^ 4)

theorem den_pos {x : ℝ} (hx : 0 ≤ x) : 0 < 1 + cp * x := by have := mul_nonneg cp_pos.le hx; linarith

theorem var_pos {x : ℝ} (hx : 0 ≤ x) : 0 < var x := div_pos one_pos (den_pos hx)

theorem var_anti {x y : ℝ} (hx : 0 ≤ x) (h : x ≤ y) : var y ≤ var x :=
  one_div_le_one_div_of_le (den_pos hx) (by have := mul_le_mul_of_nonneg_left h cp_pos.le; linarith)

theorem var_zero : var 0 = 1 := by simp [var]

theorem var_node {r : ℝ} (hr : 0 < r) : var (node r) = r := by
  have := cp_pos
  unfold var node
  field_simp
  ring

theorem node_nonneg {r : ℝ} (hr : 0 < r) (h1 : r ≤ 1) : 0 ≤ node r :=
  div_nonneg (by linarith) (mul_nonneg cp_pos.le hr.le)

theorem node_le {r r' : ℝ} (hr : 0 < r) (h : r ≤ r') : node r' ≤ node r := by
  unfold node
  have hp := cp_pos
  have h' : 0 < r' := by linarith
  rw [div_le_div_iff₀ (mul_pos hp h') (mul_pos hp hr)]
  have := mul_le_mul_of_nonneg_left h hp.le
  nlinarith

theorem poly_deriv (t : ℝ) :
    HasDerivAt poly (c1 - 2 * c2 * t + 3 * c3 * t ^ 2 - 4 * c4 * t ^ 3 + 5 * c5 * t ^ 4) t := by
  have h := (((((hasDerivAt_id t).const_mul c1).sub ((hasDerivAt_pow 2 t).const_mul c2)).add
    ((hasDerivAt_pow 3 t).const_mul c3)).sub ((hasDerivAt_pow 4 t).const_mul c4)).add ((hasDerivAt_pow 5 t).const_mul c5)
  refine h.congr_deriv ?_
  norm_num
  ring

theorem var_deriv {x : ℝ} (hx : 0 ≤ x) : HasDerivAt var (-(cp * var x ^ 2)) x := by
  have h := ((((hasDerivAt_id x).const_mul cp).const_add 1).inv (den_pos hx).ne')
  have e : var = fun y => (1 + cp * y)⁻¹ := by funext y; exact one_div _
  rw [e]
  refine h.congr_deriv ?_
  have := den_pos hx
  simp only [id]
  field_simp

theorem err_deriv {x : ℝ} (hx : 0 ≤ x) : HasDerivAt err (slope (var x) * gauss x) x := by
  have h := (((area_deriv x).const_mul scale).sub_const 1).add
    (((poly_deriv (var x)).comp x (var_deriv hx)).mul (gauss_deriv x))
  refine h.congr_deriv ?_
  have hv : x * var x = (1 - var x) / cp := by
    have := den_pos hx
    have := cp_pos
    unfold var
    field_simp
    ring
  have hp : poly (var x) = var x * (c1 - c2 * var x + c3 * var x ^ 2 - c4 * var x ^ 3 + c5 * var x ^ 4) := by
    unfold poly; ring
  have e : 2 * (1 - var x) / cp = 2 * (x * var x) := by rw [hv]; ring
  unfold slope
  rw [e, Function.comp_apply, hp]
  ring

/-- The slope's six roots, to ten places. -/
def prod (t : ℝ) : ℝ :=
  (t - 0.9855552208) * (t - 0.9319295337) * (t - 0.8573372190) * (t - 0.7734234296) * (t - 0.6853330474)
    * (t - 0.5890005760)

/-- What the roots and the two constants leave over. -/
def small : ℝ := 2 / 10 ^ 9

theorem slope_near {t : ℝ} (h0 : 0 ≤ t) (h1 : t ≤ 1) : |slope t + 5 * cp * c5 * prod t| ≤ small := by
  obtain ⟨hl, hu⟩ := scale_bounds
  have p2 : t ^ 2 ≤ 1 := pow_le_one₀ h0 h1
  have p3 : t ^ 3 ≤ 1 := pow_le_one₀ h0 h1
  have p4 : t ^ 4 ≤ 1 := pow_le_one₀ h0 h1
  have p5 : t ^ 5 ≤ 1 := pow_le_one₀ h0 h1
  have q2 : 0 ≤ t ^ 2 := by positivity
  have q3 : 0 ≤ t ^ 3 := by positivity
  have q4 : 0 ≤ t ^ 4 := by positivity
  have q5 : 0 ≤ t ^ 5 := by positivity
  unfold slope prod small cp c1 c2 c3 c4 c5
  rw [abs_le]
  constructor <;> ring_nf <;> linarith

/-- Where the roots' product has the sign `s`, the slope has the other one, or is small. -/
theorem slope_sign {s t : ℝ} (hs : s = 1 ∨ s = -1) (h0 : 0 ≤ t) (h1 : t ≤ 1) (h : 0 ≤ s * prod t) :
    s * slope t ≤ small := by
  have hn := abs_le.mp (slope_near h0 h1)
  have hc : 0 ≤ 5 * cp * c5 := by unfold cp c5; norm_num
  have := mul_nonneg hc h
  rcases hs with rfl | rfl <;> linarith [hn.1, hn.2]

theorem six {a b c d e f : ℝ} (ha : 0 ≤ a) (hb : 0 ≤ b) (hc : 0 ≤ c) (hd : 0 ≤ d) (he : 0 ≤ e) (hf : 0 ≤ f) :
    0 ≤ a * b * c * d * e * f := by positivity

/-! ## The Gaussian's integral beyond four -/

theorem area_four : (0.886226911 : ℝ) ≤ area 4 ∧ area 4 ≤ 0.886226912 := by
  have h := area_bounds 31 (x := 4) (by norm_num)
  simp only [areaSum, Finset.sum_range_succ, Finset.sum_range_zero, Nat.factorial] at h
  norm_num at h
  constructor
  · norm_num; linarith [h.1]
  · norm_num; linarith [h.2]

theorem gauss_four : gauss 4 ≤ 1.13 / 10 ^ 7 := by
  have h := (gauss_bounds 31 4).2
  simp only [expSum, Finset.sum_range_succ, Finset.sum_range_zero, Nat.factorial] at h
  norm_num at h
  norm_num; linarith

theorem area_tail {x : ℝ} (hx : 4 ≤ x) : area x ≤ area 4 + gauss 4 / 8 := by
  have hm : AntitoneOn (fun y => area y + gauss y / 8) (Set.Ici 4) := by
    have hd : ∀ y : ℝ, HasDerivAt (fun y => area y + gauss y / 8) (gauss y + -(2 * y) * gauss y / 8) y := fun y =>
      (area_deriv y).add ((gauss_deriv y).div_const 8)
    refine antitoneOn_of_deriv_nonpos (convex_Ici (4 : ℝ)) (fun y _ => (hd y).continuousAt.continuousWithinAt)
      (fun y _ => (hd y).differentiableAt.differentiableWithinAt) fun y hy => ?_
    rw [(hd y).deriv]
    rw [interior_Ici] at hy
    have h4 : (4 : ℝ) < y := hy
    have := mul_nonneg (gauss_pos y).le (show 0 ≤ y - 4 by linarith)
    nlinarith
  have h := hm (Set.mem_Ici.mpr le_rfl) (Set.mem_Ici.mpr hx) hx
  simp only at h
  have := gauss_pos x
  linarith

theorem area_le (x : ℝ) : area x ≤ 0.88622693 := by
  have h4 := area_four.2
  have hg := gauss_four
  norm_num at h4 hg ⊢
  rcases le_total x 4 with h | h
  · have := area_mono h
    linarith
  · have := area_tail h
    linarith

/-- The error function lies between minus and plus one, or hardly outside. -/
theorem erf_le {x : ℝ} (hx : 0 ≤ x) : 0 ≤ scale * area x ∧ scale * area x ≤ 1 + 1 / 10 ^ 8 := by
  obtain ⟨hl, hu⟩ := scale_bounds
  have hs : 0 ≤ scale := by linarith
  have h0 := area_nonneg hx
  refine ⟨mul_nonneg hs h0, ?_⟩
  have := mul_le_mul hu (area_le x) h0 (by norm_num)
  norm_num at this ⊢
  linarith

/-! ## Between two points -/

theorem moves {a b s : ℝ} (ha : 0 ≤ a) (h : ∀ t, var b ≤ t → t ≤ var a → s * slope t ≤ small) {x y : ℝ} (hax : a ≤ x)
    (hxy : x ≤ y) (hyb : y ≤ b) : s * err y ≤ s * err x + small := by
  have hd : ∀ z : ℝ, 0 ≤ z → HasDerivAt (fun z => s * err z - small * area z) (s * (slope (var z) * gauss z) - small * gauss z) z :=
    fun z hz => ((err_deriv hz).const_mul s).sub ((area_deriv z).const_mul small)
  have hm : AntitoneOn (fun z => s * err z - small * area z) (Set.Icc a b) := by
    refine antitoneOn_of_deriv_nonpos (convex_Icc a b)
      (fun z hz => (hd z (ha.trans hz.1)).continuousAt.continuousWithinAt) (fun z hz => ?_) fun z hz => ?_
    · rw [interior_Icc] at hz
      exact (hd z (ha.trans hz.1.le)).differentiableAt.differentiableWithinAt
    · rw [interior_Icc] at hz
      have hz0 := ha.trans hz.1.le
      rw [(hd z hz0).deriv]
      have h1 := h (var z) (var_anti hz0 hz.2.le) (var_anti ha hz.1.le)
      have := mul_nonneg (sub_nonneg.mpr h1) (gauss_pos z).le
      nlinarith
  have h1 := hm ⟨hax, hxy.trans hyb⟩ ⟨hax.trans hxy, hyb⟩ hxy
  simp only at h1
  have h2 := area_le y
  have h3 := area_nonneg (ha.trans hax)
  have h4 : small * (area y - area x) ≤ small * 1 :=
    mul_le_mul_of_nonneg_left (by norm_num at h2 ⊢; linarith) (by unfold small; norm_num)
  linarith

/-- Between two points where the difference is small, its slope of one sign, it is small. -/
theorem between {a b s m : ℝ} (hs : s = 1 ∨ s = -1) (ha : 0 ≤ a)
    (h : ∀ t, var b ≤ t → t ≤ var a → s * slope t ≤ small) (hma : |err a| ≤ m) (hmb : |err b| ≤ m) {x : ℝ} (hax : a ≤ x)
    (hxb : x ≤ b) : |err x| ≤ m + small := by
  have h1 := moves ha h le_rfl hax hxb
  have h2 := moves ha h hax hxb le_rfl
  rw [abs_le] at hma hmb ⊢
  rcases hs with rfl | rfl <;> constructor <;> linarith [hma.1, hma.2, hmb.1, hmb.2]

/-! ## The values at the points -/

/-- The bound of the values. -/
def top : ℝ := 1.47 / 10 ^ 7

/-- A value bounded by partial sums. -/
theorem value (n : ℕ) {x r : ℝ} (hx : 0 ≤ x) (hr : var x = r) (hp : 0 ≤ poly r) (ha : 0 ≤ areaSum (2 * n) x)
    (hl : -top ≤ 1.128379167095 * areaSum (2 * n) x - 1 + poly r * expSum (2 * n) (x ^ 2))
    (hu : 1.128379167096 * areaSum (2 * n + 1) x - 1 + poly r * expSum (2 * n + 1) (x ^ 2) ≤ top) : |err x| ≤ top := by
  obtain ⟨a1, a2⟩ := area_bounds n hx
  obtain ⟨g1, g2⟩ := gauss_bounds n x
  obtain ⟨s1, s2⟩ := scale_bounds
  have e1 := mul_le_mul s1 a1 ha (by linarith)
  have e2 := mul_le_mul s2 a2 (area_nonneg hx) (by norm_num)
  have e3 := mul_le_mul_of_nonneg_left g1 hp
  have e4 := mul_le_mul_of_nonneg_left g2 hp
  unfold err
  rw [hr, abs_le]
  constructor <;> linarith

theorem value_node (n : ℕ) {r : ℝ} (hr : 0 < r) (h1 : r ≤ 1) (hp : 0 ≤ poly r) (ha : 0 ≤ areaSum (2 * n) (node r))
    (hl : -top ≤ 1.128379167095 * areaSum (2 * n) (node r) - 1 + poly r * expSum (2 * n) (node r ^ 2))
    (hu : 1.128379167096 * areaSum (2 * n + 1) (node r) - 1 + poly r * expSum (2 * n + 1) (node r ^ 2) ≤ top) :
    |err (node r)| ≤ top := value n (node_nonneg hr h1) (var_node hr) hp ha hl hu

theorem value_1 : |err (node 0.9855552208)| ≤ top := by
  apply value_node 3 <;>
    norm_num [poly, node, top, areaSum, expSum, cp, c1, c2, c3, c4, c5, Finset.sum_range_succ, Nat.factorial]

theorem value_2 : |err (node 0.9319295337)| ≤ top := by
  apply value_node 4 <;>
    norm_num [poly, node, top, areaSum, expSum, cp, c1, c2, c3, c4, c5, Finset.sum_range_succ, Nat.factorial]

theorem value_3 : |err (node 0.8573372190)| ≤ top := by
  apply value_node 5 <;>
    norm_num [poly, node, top, areaSum, expSum, cp, c1, c2, c3, c4, c5, Finset.sum_range_succ, Nat.factorial]

theorem value_4 : |err (node 0.7734234296)| ≤ top := by
  apply value_node 6 <;>
    norm_num [poly, node, top, areaSum, expSum, cp, c1, c2, c3, c4, c5, Finset.sum_range_succ, Nat.factorial]

theorem value_5 : |err (node 0.6853330474)| ≤ top := by
  apply value_node 9 <;>
    norm_num [poly, node, top, areaSum, expSum, cp, c1, c2, c3, c4, c5, Finset.sum_range_succ, Nat.factorial]

theorem value_6 : |err (node 0.5890005760)| ≤ top := by
  apply value_node 15 <;>
    norm_num [poly, node, top, areaSum, expSum, cp, c1, c2, c3, c4, c5, Finset.sum_range_succ, Nat.factorial]

theorem value_zero : |err 0| ≤ top := by
  apply value 1 le_rfl var_zero <;>
    norm_num [poly, top, areaSum, expSum, c1, c2, c3, c4, c5, Finset.sum_range_succ, Nat.factorial]

theorem poly_small {t : ℝ} (h0 : 0 ≤ t) (h1 : t ≤ 1 / 2) : 0 ≤ poly t ∧ poly t ≤ 1 := by
  have e : poly t = t * (c1 - c2 * t + t ^ 2 * (c3 - c4 * t) + c5 * t ^ 4) := by unfold poly; ring
  have q : 0 ≤ t ^ 4 := by positivity
  have q2 : 0 ≤ t ^ 2 := by positivity
  have q2' : t ^ 2 ≤ 1 / 4 := by nlinarith
  have q4' : t ^ 4 ≤ 1 / 4 := by nlinarith
  have k1 : 0 ≤ c3 - c4 * t := by unfold c3 c4; linarith
  have k2 : c3 - c4 * t ≤ 3 / 2 := by unfold c3 c4; linarith
  have k3 := mul_nonneg q2 k1
  have k4 := mul_le_mul q2' k2 k1 (by norm_num)
  have l1 : 0 ≤ c1 - c2 * t + t ^ 2 * (c3 - c4 * t) + c5 * t ^ 4 := by
    have : 0 ≤ c1 - c2 * t := by unfold c1 c2; linarith
    have : 0 ≤ c5 * t ^ 4 := mul_nonneg (by unfold c5; norm_num) q
    linarith
  have l2 : c1 - c2 * t + t ^ 2 * (c3 - c4 * t) + c5 * t ^ 4 ≤ 2 := by
    have : c1 - c2 * t ≤ 1 := by unfold c1 c2; linarith
    have : c5 * t ^ 4 ≤ 1 / 2 := by unfold c5; linarith
    linarith
  rw [e]
  refine ⟨mul_nonneg h0 l1, ?_⟩
  have := mul_le_mul h1 l2 l1 (by norm_num)
  linarith

/-- From four on both are hardly different from one. -/
theorem beyond {x : ℝ} (hx : 4 ≤ x) : |err x| ≤ top := by
  have h0 : (0 : ℝ) ≤ x := by linarith
  obtain ⟨hl, hu⟩ := scale_bounds
  have h1 := (erf_le h0).2
  have h2 : 1 - 2 / 10 ^ 8 ≤ scale * area x := by
    have := mul_le_mul hl (area_four.1.trans (area_mono hx)) (by norm_num) (by linarith)
    norm_num at this ⊢
    linarith
  have hv : var x ≤ 1 / 2 := by
    refine (var_anti (by norm_num) hx).trans ?_
    norm_num [var, cp]
  obtain ⟨p0, p1⟩ := poly_small (var_pos h0).le hv
  have hg : gauss x ≤ gauss 4 := Real.exp_le_exp.mpr (by nlinarith)
  have g4 := gauss_four
  have h3 := mul_nonneg p0 (gauss_pos x).le
  have h4 := mul_le_mul p1 hg (gauss_pos x).le (by norm_num)
  unfold err top
  rw [abs_le]
  norm_num at h1 h2 g4 ⊢
  constructor <;> linarith

/-! ## Everywhere -/

/-- The bound of the difference. -/
def eps : ℝ := 1.5 / 10 ^ 7

theorem top_small : top + small ≤ eps := by unfold top small eps; norm_num

/-- A piece between two points given by their variables. -/
theorem piece {r r' s : ℝ} (hs : s = 1 ∨ s = -1) (hr : 0 < r) (hr' : r' ≤ 1) (hrr : r ≤ r')
    (h : ∀ t, r ≤ t → t ≤ r' → 0 ≤ s * prod t) (ha : |err (node r')| ≤ top) (hb : |err (node r)| ≤ top) {x : ℝ}
    (h1 : node r' ≤ x) (h2 : x ≤ node r) : |err x| ≤ eps := by
  have hp' : 0 < r' := hr.trans_le hrr
  refine (between hs (node_nonneg hp' hr') (fun t ht ht' => ?_) ha hb h1 h2).trans top_small
  rw [var_node hr] at ht
  rw [var_node hp'] at ht'
  exact slope_sign hs (hr.le.trans ht) (ht'.trans hr') (h t ht ht')

theorem err_small {x : ℝ} (hx : 0 ≤ x) : |err x| ≤ eps := by
  have hts := top_small
  have hs0 : 0 ≤ small := by unfold small; norm_num
  have n0 : node 1 = 0 := by simp [node]
  have v0 : |err (node 1)| ≤ top := by rw [n0]; exact value_zero
  have hv4 : var 4 = 1 / (1 + cp * 4) := rfl
  have n7 : node (var 4) = 4 := by rw [hv4]; unfold node cp; norm_num
  have v7 : |err (node (var 4))| ≤ top := by rw [n7]; exact beyond le_rfl
  have r7 : var 4 ≤ 0.5 := by rw [hv4]; unfold cp; norm_num
  rcases le_total x (node 0.9855552208) with h1 | h1
  · refine piece (s := 1) (Or.inl rfl) (by norm_num) le_rfl (by norm_num) (fun t a b => ?_) v0 value_1 (n0 ▸ hx) h1
    refine (six (a := t - 0.9855552208) (b := t - 0.9319295337) (c := t - 0.8573372190) (d := t - 0.7734234296)
      (e := t - 0.6853330474) (f := t - 0.5890005760) ?_ ?_ ?_ ?_ ?_ ?_).trans_eq (by unfold prod; ring) <;> norm_num at a b ⊢ <;> linarith
  rcases le_total x (node 0.9319295337) with h2 | h2
  · refine piece (s := -1) (Or.inr rfl) (by norm_num) (by norm_num) (by norm_num) (fun t a b => ?_) value_1 value_2 h1 h2
    refine (six (a := 0.9855552208 - t) (b := t - 0.9319295337) (c := t - 0.8573372190) (d := t - 0.7734234296)
      (e := t - 0.6853330474) (f := t - 0.5890005760) ?_ ?_ ?_ ?_ ?_ ?_).trans_eq (by unfold prod; ring) <;> norm_num at a b ⊢ <;> linarith
  rcases le_total x (node 0.8573372190) with h3 | h3
  · refine piece (s := 1) (Or.inl rfl) (by norm_num) (by norm_num) (by norm_num) (fun t a b => ?_) value_2 value_3 h2 h3
    refine (six (a := 0.9855552208 - t) (b := 0.9319295337 - t) (c := t - 0.8573372190) (d := t - 0.7734234296)
      (e := t - 0.6853330474) (f := t - 0.5890005760) ?_ ?_ ?_ ?_ ?_ ?_).trans_eq (by unfold prod; ring) <;> norm_num at a b ⊢ <;> linarith
  rcases le_total x (node 0.7734234296) with h4 | h4
  · refine piece (s := -1) (Or.inr rfl) (by norm_num) (by norm_num) (by norm_num) (fun t a b => ?_) value_3 value_4 h3 h4
    refine (six (a := 0.9855552208 - t) (b := 0.9319295337 - t) (c := 0.8573372190 - t) (d := t - 0.7734234296)
      (e := t - 0.6853330474) (f := t - 0.5890005760) ?_ ?_ ?_ ?_ ?_ ?_).trans_eq (by unfold prod; ring) <;> norm_num at a b ⊢ <;> linarith
  rcases le_total x (node 0.6853330474) with h5 | h5
  · refine piece (s := 1) (Or.inl rfl) (by norm_num) (by norm_num) (by norm_num) (fun t a b => ?_) value_4 value_5 h4 h5
    refine (six (a := 0.9855552208 - t) (b := 0.9319295337 - t) (c := 0.8573372190 - t) (d := 0.7734234296 - t)
      (e := t - 0.6853330474) (f := t - 0.5890005760) ?_ ?_ ?_ ?_ ?_ ?_).trans_eq (by unfold prod; ring) <;> norm_num at a b ⊢ <;> linarith
  rcases le_total x (node 0.5890005760) with h6 | h6
  · refine piece (s := -1) (Or.inr rfl) (by norm_num) (by norm_num) (by norm_num) (fun t a b => ?_) value_5 value_6 h5 h6
    refine (six (a := 0.9855552208 - t) (b := 0.9319295337 - t) (c := 0.8573372190 - t) (d := 0.7734234296 - t)
      (e := 0.6853330474 - t) (f := t - 0.5890005760) ?_ ?_ ?_ ?_ ?_ ?_).trans_eq (by unfold prod; ring) <;> norm_num at a b ⊢ <;> linarith
  rcases le_total x 4 with h7 | h7
  · refine piece (s := 1) (Or.inl rfl) (var_pos (by norm_num)) (by norm_num) (r7.trans (by norm_num)) (fun t a b => ?_)
      value_6 v7 h6 (h7.trans n7.ge)
    refine (six (a := 0.9855552208 - t) (b := 0.9319295337 - t) (c := 0.8573372190 - t) (d := 0.7734234296 - t)
      (e := 0.6853330474 - t) (f := 0.5890005760 - t) ?_ ?_ ?_ ?_ ?_ ?_).trans_eq (by unfold prod; ring) <;> norm_num at a b ⊢ <;> linarith
  · exact (beyond h7).trans (by linarith)

/-- Formula 7.1.26, with the float coefficients, is within 1.5·10⁻⁷ of the error function on all reals. -/
theorem asErf_near (x : ℝ) : |asErf x - scale * area x| ≤ eps := by
  have pos : ∀ y : ℝ, 0 < y → |1 - poly (1 / (1 + cp * y)) * Real.exp (-(y ^ 2)) - scale * area y| ≤ eps := by
    intro y hy
    have h := err_small hy.le
    have e : scale * area y - (1 - poly (1 / (1 + cp * y)) * Real.exp (-(y ^ 2))) = err y := by
      unfold err var gauss; ring
    rwa [abs_sub_comm, e]
  unfold asErf
  rcases lt_trichotomy x 0 with h | h | h
  · have := pos (-x) (by linarith)
    rw [sign_neg h, abs_of_neg h]
    rw [area_neg, neg_sq] at this
    rw [← abs_neg]
    convert this using 2
    simp
    ring
  · subst h
    simp [area_zero, eps]
    norm_num
  · have := pos x h
    rw [sign_pos h, abs_of_pos h]
    simpa using this

/-- The error function's magnitude is at most one, or hardly more. -/
theorem erf_abs (x : ℝ) : |scale * area x| ≤ 1 + 1 / 10 ^ 8 := by
  rcases le_total 0 x with h | h
  · obtain ⟨h0, h1⟩ := erf_le h
    rwa [abs_of_nonneg h0]
  · obtain ⟨h0, h1⟩ := erf_le (x := -x) (by linarith)
    rw [area_neg, mul_neg] at h0 h1
    rw [abs_of_nonpos (by linarith)]
    exact h1

end Cert.Proof.ErfBound

end
-- ==== Proof.Distance.lean ====
/- How far the plain raster element by formula 7.1.26 is from the one by the exact error function. -/
module

public import proofs.«01_k».proof.Proof.ErfBound

@[expose] public section

noncomputable section

namespace Cert.Proof.Distance

open Cert.Proof.Model Cert.Proof.Consts Cert.Proof.Equation Cert.Proof.ErfBound Cert.Proof.Gauss Idealize.ShloMosaic

/-- At every extended real both error functions are finite, within `eps` of each other, and the exact one is at most one
    in magnitude, or hardly more. -/
theorem erf_pair (z : EReal) : ∃ a b : ℝ, rErf z = (a : EReal) ∧ Ideal.erf z = (b : EReal) ∧ |a - b| ≤ eps
    ∧ |b| ≤ 1 + 1 / 10 ^ 8 := by
  have he : (0 : ℝ) ≤ eps := by unfold eps; norm_num
  induction z with
  | bot => exact ⟨-1, -1, by rw [rErf_bot], by simp, by simpa using he, by norm_num⟩
  | coe r => exact ⟨_, _, rErf_coe r, Ideal.erf_coe (r := r), asErf_near r, erf_abs r⟩
  | top => exact ⟨1, 1, by rw [rErf_top], by simp, by simpa using he, by norm_num⟩

/-- The probabilities of a cell by the two. -/
theorem diff_pair (s c g : EReal) (k : ℕ) : ∃ a b : ℝ, rDiff rErf s c g k = (a : EReal)
    ∧ rDiff Ideal.erf s c g k = (b : EReal) ∧ |a - b| ≤ eps ∧ |b| ≤ 1 + 1 / 10 ^ 8 := by
  obtain ⟨a, b, ha, hb, h1, h2⟩ := erf_pair (rArg s c g (k + 1))
  obtain ⟨a', b', ha', hb', h1', h2'⟩ := erf_pair (rArg s c g k)
  refine ⟨1 / 2 * (1 + a) - 1 / 2 * (1 + a'), 1 / 2 * (1 + b) - 1 / 2 * (1 + b'), ?_, ?_, ?_, ?_⟩
  · unfold rDiff; rw [cdf_real ha, cdf_real ha', EReal.coe_sub]
  · unfold rDiff; rw [cdf_real hb, cdf_real hb', EReal.coe_sub]
  · rw [abs_le] at *; constructor <;> linarith [h1.1, h1.2, h1'.1, h1'.2]
  · rw [abs_le] at *; constructor <;> linarith [h2.1, h2.2, h2'.1, h2'.2]

/-- A product of two numbers close to two others. -/
theorem mul_close {a b a' b' e e' m m' : ℝ} (h : |a - b| ≤ e) (h' : |a' - b'| ≤ e') (hb : |b| ≤ m) (hb' : |b'| ≤ m') :
    |a * a' - b * b'| ≤ e * (m' + e') + m * e' ∧ |b * b'| ≤ m * m' := by
  have e0 := (abs_nonneg _).trans h
  have m0 := (abs_nonneg _).trans hb
  have ha' : |a'| ≤ m' + e' := by
    have := abs_add_le b' (a' - b')
    rw [add_sub_cancel] at this
    linarith
  constructor
  · have e : a * a' - b * b' = (a - b) * a' + b * (a' - b') := by ring
    rw [e]
    refine (abs_add_le _ _).trans ?_
    rw [abs_mul, abs_mul]
    exact add_le_add (mul_le_mul h ha' (abs_nonneg _) e0) (mul_le_mul hb h' (abs_nonneg _) m0)
  · rw [abs_mul]; exact mul_le_mul hb hb' (abs_nonneg _) m0

/-- The raster elements by the two error functions differ by at most the tolerance times the charge's magnitude. -/
theorem raster_close (s c g : Fin 3 → EReal) (q : EReal) (i j k : ℕ) :
    mag (rRaster rErf s c g q i j k - rRaster Ideal.erf s c g q i j k) ≤ lit 0x350637BD#32 * mag q := by
  have ht : 0 < tol := by unfold tol; norm_num
  rw [lit_tol]
  have inf : mag q = ⊤ → mag (rRaster rErf s c g q i j k - rRaster Ideal.erf s c g q i j k) ≤ (tol : EReal) * mag q := by
    intro h; rw [h, EReal.coe_mul_top_of_pos ht]; exact le_top
  induction q with
  | bot => exact inf mag_bot
  | top => exact inf mag_top
  | coe r =>
    obtain ⟨a0, b0, h0, h0', d0, m0⟩ := diff_pair (s 0) (c 0) (g 0) i
    obtain ⟨a1, b1, h1, h1', d1, m1⟩ := diff_pair (s 1) (c 1) (g 1) j
    obtain ⟨a2, b2, h2, h2', d2, m2⟩ := diff_pair (s 2) (c 2) (g 2) k
    unfold rRaster
    rw [h0, h1, h2, h0', h1', h2', mag_coe]
    simp only [← EReal.coe_mul, ← EReal.coe_sub]
    rw [mag_coe, EReal.coe_le_coe_iff]
    obtain ⟨p, pm⟩ := mul_close d0 d1 m0 m1
    obtain ⟨w, _⟩ := mul_close p d2 pm m2
    have e : r * a0 * a1 * a2 - r * b0 * b1 * b2 = (a0 * a1 * a2 - b0 * b1 * b2) * r := by ring
    rw [e, abs_mul]
    refine mul_le_mul_of_nonneg_right (w.trans ?_) (abs_nonneg _)
    unfold eps tol
    norm_num

end Cert.Proof.Distance

end
-- ==== Proof.Near.lean ====
/- The property `near`, element by element: its own raster with the exact error function, and its two comparisons. -/
module

public import proofs.«01_k».proof.Defs
public import proofs.«01_k».proof.Proof.Ref

@[expose] public section

noncomputable section

namespace Cert.Proof.Near

open Cert.Post_near Cert.Proof.Model Cert.Proof.Ref Cert.ReferenceIdeal.Read Idealize.ShloMosaic Idealize.ShloMosaic.TcCoe

/-- The side conditions of the property's operations. -/
instance post_facts : Cert.Post_near.Facts := by
  constructor <;> decide

variable (x0 : Vec Ideal S100000x3 .f32) (x1 x2 : Vec Ideal S100000 .f32) (x3 : Vec Ideal S100000x3 .f32)
    (x4 : Vec Ideal S3 .f32) (x5 : Vec Ideal S_ .f32) (x6 : Vec Ideal S100000x8x8x8 .f32) (x7 : IVec S100000x3 32)

/-- The cumulative distributions at the edges, by the exact error function. -/
def exactCdf (z : FVec Ideal S100000x3x9 .f32) : FVec Ideal S100000x3x9 .f32 :=
  mulf (F := Ideal) (φ := .f32) (broadcastInDim S100000x3x9 ![] Facts.bcast_S_S100000x3x9 (constant S_ .f32 0x3F000000#32))
    (addf (F := Ideal) (φ := .f32) (broadcastInDim S100000x3x9 ![] Facts.bcast_S_S100000x3x9 (constant S_ .f32 0x3F800000#32))
      (Host.erf z))

theorem exactCdf_apply (z : FVec Ideal S100000x3x9 .f32) (j : S100000x3x9.Idx) : exactCdf z j = cdf Ideal.erf (z j) := by
  unfold exactCdf
  pointwise [cdf]

/-- The property from its cumulative distributions on: their differences, the outer product, the two comparisons. -/
def compare (y : Vec Ideal S100000x3x9 .f32) (corner : Vec Ideal S100000x3 .f32) : IVec S100000x8x8x8 1 × IVec S100000x3 1 :=
  let d : FVec Ideal S100000x3x8 .f32 :=
    subf (F := Ideal) (φ := .f32) (extractStridedSlice S100000x3x8 ![0, 0, 1] y Facts.slices_S100000x3x9_S100000x3x8_0_0_1)
      (extractStridedSlice S100000x3x8 ![0, 0, 0] y Facts.slices_S100000x3x9_S100000x3x8_0_0_0)
  fn_part2 (F := Ideal) x2 x6 x7 corner d
    (broadcastInDim S100000x1x1x1 ![0] Facts.bcast_S100000_S100000x1x1x1_0 x2)
    (shapeCast S100000x8 (extractStridedSlice S100000x1x8 ![0, 0, 0] d Facts.slices_S100000x3x8_S100000x1x8_0_0_0)
      Facts.shapeCasts_S100000x1x8_S100000x8)

theorem part1_eq (v7 : FVec Ideal S100000x3 .f32) (v14 : FVec Ideal S100000x3 .f32) (v20 v22 : FVec Ideal S100000x3x9 .f32) :
    fn_part1 (F := Ideal) x0 x2 x6 x7 v7 v14 v20 v22
      = compare x2 x6 x7 (exactCdf (Host.divf
          (subf (mulf v20 v22) (broadcastInDim S100000x3x9 ![0, 1, 2] Facts.bcast_S100000x3x1_S100000x3x9_0_1_2
            (broadcastInDim S100000x3x1 ![0, 1] Facts.bcast_S100000x3_S100000x3x1_0_1 v7)))
          (broadcastInDim S100000x3x9 ![0, 1, 2] Facts.bcast_S100000x3x1_S100000x3x9_0_1_2
            (mulf (broadcastInDim S100000x3x1 ![] Facts.bcast_S_S100000x3x1 (Host.sqrt (constant (F := Ideal) S_ .f32 0x40000000#32)))
              (broadcastInDim S100000x3x1 ![0, 1] Facts.bcast_S100000x3_S100000x3x1_0_1 x0))))) v14 := by
  unfold fn_part1 compare exactCdf
  rfl

/-- The property's first lines are the reference's. -/
theorem fn_eq : fn (F := Ideal) x0 x1 x2 x3 x4 x5 x6 x7
    = compare x2 x6 x7 (exactCdf (val_main_v32 (F := Ideal) x0 x1 x3 x4)) (val_main_v14 (F := Ideal) x0 x1 x3 x4) :=
  (part1_eq x0 x2 x6 x7 (val_main_v7 (F := Ideal) x1 x3) (val_main_v14 (F := Ideal) x0 x1 x3 x4)
    (val_main_v20 (F := Ideal) x0 x1 x3 x4) (val_main_v22 (F := Ideal) x4)).trans (by
      unfold val_main_v32 val_main_v31 val_main_v30 val_main_v29 val_main_v28 val_main_v27 val_main_v26 val_main_v25
        val_main_v24 val_main_v23 val_main_cst_0
      rfl)

theorem raster_near (n : Fin 100000) (i j k : Fin 8) :
    (fn (F := Ideal) x0 x1 x2 x3 x4 x5 x6 x7).1 (ix4 n i j k)
      = BitVec.ofBool (decide (mag (x6 (ix4 n i j k)
          - rRaster Ideal.erf (fun a => x0 (ix2 n a)) (centre x1 x3 n) (fun a => x4 (ix1 a)) (x2 (ix1 n)) i.val j.val k.val)
        ≤ lit 0x350637BD#32 * mag (x2 (ix1 n)))) := by
  rw [fn_eq]
  have hd : ∀ (a : Fin 3) (e : Fin 9) (v : ℕ), e.val = v → exactCdf (val_main_v32 (F := Ideal) x0 x1 x3 x4) (ix3 n a e)
      = cdf Ideal.erf (rArg (x0 (ix2 n a)) (centre x1 x3 n a) (x4 (ix1 a)) v) := by
    rintro a e v rfl; rw [exactCdf_apply, arg_apply]
  unfold rRaster rDiff
  generalize exactCdf (val_main_v32 (F := Ideal) x0 x1 x3 x4) = y at hd
  generalize val_main_v14 (F := Ideal) x0 x1 x3 x4 = z
  unfold compare fn_part2 fn_part3
  pointwise []
  rw [hd 0 _ (i.val + 1) (Nat.add_comm 1 _), hd 0 _ i.val rfl, hd 1 _ (j.val + 1) (Nat.add_comm 1 _), hd 1 _ j.val rfl,
    hd 2 _ (k.val + 1) (Nat.add_comm 1 _), hd 2 _ k.val rfl]

theorem offset_near (n : Fin 100000) (a : Fin 3) :
    (fn (F := Ideal) x0 x1 x2 x3 x4 x5 x6 x7).2 (ix2 n a)
      = BitVec.ofBool (decide (x7 (ix2 n a)
        = FloatOps.fptosi (F := Ideal) (φ := .f32) 32 (rCorner (x0 (ix2 n a)) (centre x1 x3 n a) (x4 (ix1 a))))) := by
  rw [fn_eq, ← corner_apply]
  generalize val_main_v14 (F := Ideal) x0 x1 x3 x4 = z
  generalize exactCdf (val_main_v32 (F := Ideal) x0 x1 x3 x4) = y
  unfold compare fn_part2 fn_part3
  pointwise []
  rw [IntOp.cmpi, beq_eq_decide]

end Cert.Proof.Near

end
-- ==== Proof.Claims.lean ====
/- The claims, one theorem each. -/
module

public import proofs.«01_k».proof.Defs
public import proofs.«01_k».proof.Proof.Gen.Kernel.Frame
public import proofs.«01_k».proof.Proof.Run
public import proofs.«01_k».proof.Proof.Ref
public import proofs.«01_k».proof.Proof.Equation
public import proofs.«01_k».proof.Proof.Distance
public import proofs.«01_k».proof.Proof.Near

@[expose] public section

noncomputable section

namespace Cert.Proof.Claims

open Cert.Proof.Model Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts

/-- The side conditions of the precondition's operations. -/
instance pre_facts : Cert.Pre_nonzero.Facts where
  bcast_S_S100000x3 := by decide
  bcast_S_S3 := by decide

/-- The precondition at one element: no width and no cell size is zero. -/
theorem nonzero_iff (x0 : Vec Ideal Cert.Pre_nonzero.S100000x3 .f32) (x1 x2 : Vec Ideal Cert.Pre_nonzero.S100000 .f32)
    (x3 : Vec Ideal Cert.Pre_nonzero.S100000x3 .f32) (x4 : Vec Ideal Cert.Pre_nonzero.S3 .f32)
    (x5 : Vec Ideal Cert.Pre_nonzero.S_ .f32)
    (h : (Cert.Pre_nonzero.fn (F := Ideal) x0 x1 x2 x3 x4 x5).1 = (fun _ => 1#1)
      ∧ (Cert.Pre_nonzero.fn (F := Ideal) x0 x1 x2 x3 x4 x5).2 = (fun _ => 1#1)) :
    (∀ j, (x0 j : EReal) ≠ 0) ∧ (∀ j, (x4 j : EReal) ≠ 0) := by
  refine ⟨fun j hj => ?_, fun j hj => ?_⟩
  · have := congrFun h.1 j
    revert this
    unfold Cert.Pre_nonzero.fn
    pointwise [hj]
    simp
  · have := congrFun h.2 j
    revert this
    unfold Cert.Pre_nonzero.fn
    pointwise [hj]
    simp

/-- The printed kernel leaves its arguments and every counter as they were. -/
theorem quiescent_Kernel : Cert.quiescent_Kernel := fun m g _ => Cert.Kernel.Gen.frame m g

/-- So does its idealised form. -/
theorem quiescent_KernelIdeal : Cert.quiescent_KernelIdeal := fun m g _ => Cert.KernelIdeal.Gen.frame m g

/-- The reference's run: it ends with the two results at its own terms over the arguments. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run Cert.ReferenceIdeal.defs (onTc Cert.ReferenceIdeal.main) ⟨m, fun _ => 0, g⟩ (fun r => ∀ c : Dev Cert.ReferenceIdeal.nD,
      r.2.mem (c.tc.loc Cert.ReferenceIdeal.main_v96)
        = Cert.ReferenceIdeal.Read.val_main_v96 (F := Ideal) (m (c.tc.loc Cert.ReferenceIdeal.main_arg0))
            (m (c.tc.loc Cert.ReferenceIdeal.main_arg1)) (m (c.tc.loc Cert.ReferenceIdeal.main_arg2))
            (m (c.tc.loc Cert.ReferenceIdeal.main_arg3)) (m (c.tc.loc Cert.ReferenceIdeal.main_arg4))
      ∧ r.2.mem (c.tc.loc Cert.ReferenceIdeal.main_v97)
        = Cert.ReferenceIdeal.Read.val_main_v97 (F := Ideal) (m (c.tc.loc Cert.ReferenceIdeal.main_arg0))
            (m (c.tc.loc Cert.ReferenceIdeal.main_arg1)) (m (c.tc.loc Cert.ReferenceIdeal.main_arg3))
            (m (c.tc.loc Cert.ReferenceIdeal.main_arg4))) :=
  (θ_run Cert.ReferenceIdeal.defs _ _).mono (fun _ h c =>
    ⟨(h c).1.trans (Cert.ReferenceIdeal.Read.val_main_v96_eq (F := Ideal) (StableHlo.launchContents m c)),
     (h c).2.1.trans (Cert.ReferenceIdeal.Read.val_main_v97_eq (F := Ideal) (StableHlo.launchContents m c))⟩)
    (Cert.ReferenceIdeal.Value.run (F := Ideal) m g)

/-- The reference leaves its arguments and every counter as they were. -/
theorem quiescent_ReferenceIdeal : Cert.quiescent_ReferenceIdeal := fun m g _ =>
  (θ_run Cert.ReferenceIdeal.defs _ _).mono
    (fun r h => ⟨fun c => (h c).2.2, sem_eq_zero_of_no_sems (by decide) r.2⟩)
    (Cert.ReferenceIdeal.Value.run (F := Ideal) m g)

/-- The two idealisations replace nothing but what their rules allow: the literal next to 1/√2 by 1/√2, and the sign bit
    moved onto one by the sign. -/
theorem preserves : Cert.preserves_Kernel_KernelIdeal :=
  ⟨IdealRules.named_const.statement Cert.KernelIdeal.κ "inv_sqrt_two" .f32 0x3F3504F3#32
      (((Real.sqrt 2)⁻¹ : ℝ) : EReal) rfl,
    IdealRules.sign_bit.statement Cert.KernelIdeal.S48x4000 .f32⟩

/-- The reference's rasters are the kernel's. -/
theorem rasters_agree (x0 : Vec Ideal Cert.KernelIdeal.S100000x3 .f32) (x1 x2 : Vec Ideal Cert.KernelIdeal.S100000 .f32)
    (x3 : Vec Ideal Cert.KernelIdeal.S100000x3 .f32) (x4 : Vec Ideal Cert.KernelIdeal.S3 .f32)
    (h0 : ∀ j, (x0 j : EReal) ≠ 0) (h4 : ∀ j, (x4 j : EReal) ≠ 0) :
    Cert.ReferenceIdeal.Read.val_main_v96 (F := Ideal) x0 x1 x2 x3 x4 = Run.kRasters x0 x1 x2 x3 x4 := by
  funext j
  obtain ⟨n, i, k, l, rfl⟩ : ∃ n i k l, j = ix4 n i k l := ⟨_, _, _, _, eq_ix4 j⟩
  refine (Ref.raster_apply x0 x1 x2 x3 x4 _ _ _ _).trans ?_
  exact (Equation.raster_eq _ _ (fun a => h0 _) (fun a => h4 _) _ _ _).symm

/-- The reference's offsets are the kernel's. -/
theorem offsets_agree (x0 : Vec Ideal Cert.KernelIdeal.S100000x3 .f32) (x1 : Vec Ideal Cert.KernelIdeal.S100000 .f32)
    (x3 : Vec Ideal Cert.KernelIdeal.S100000x3 .f32) (x4 : Vec Ideal Cert.KernelIdeal.S3 .f32)
    (h4 : ∀ j, (x4 j : EReal) ≠ 0) :
    Cert.ReferenceIdeal.Read.val_main_v97 (F := Ideal) x0 x1 x3 x4 = Run.kOffsets x0 x1 x3 x4 := by
  funext j
  obtain ⟨n, a, rfl⟩ : ∃ n a, j = ix2 n a := ⟨_, _, eq_ix2 j⟩
  refine (Ref.offset_apply x0 x1 x3 x4 _ _).trans ?_
  exact congrArg _ (Equation.corner_eq _ _ (h4 _)).symm

/-- From any memories agreeing on the arguments, no width and no cell size being zero, the kernel and the reference end
    with the same rasters and the same offsets. -/
theorem algebraic : Cert.algebraic_KernelIdeal_ReferenceIdeal_pre_nonzero := by
  pair_intro
  · run_from Run.run m g & Cert.KernelIdeal.Gen.unchanged m g
  · run_from reference_run m' g' & Cert.ReferenceIdeal.Value.run m' g'
    · exact rasters_agree _ _ _ _ _ (nonzero_iff _ _ _ _ _ _ (hpre c)).1 (nonzero_iff _ _ _ _ _ _ (hpre c)).2
    · exact offsets_agree _ _ _ _ (nonzero_iff _ _ _ _ _ _ (hpre c)).2

/-- The kernel's results have the property `near`: its rasters lie within the tolerance of those by the exact error
    function, and its offsets are the property's. -/
theorem near_results (x0 : Vec Ideal Cert.KernelIdeal.S100000x3 .f32) (x1 x2 : Vec Ideal Cert.KernelIdeal.S100000 .f32)
    (x3 : Vec Ideal Cert.KernelIdeal.S100000x3 .f32) (x4 : Vec Ideal Cert.KernelIdeal.S3 .f32)
    (x5 : Vec Ideal Cert.KernelIdeal.S_ .f32) (h0 : ∀ j, (x0 j : EReal) ≠ 0) (h4 : ∀ j, (x4 j : EReal) ≠ 0) :
    (Cert.Post_near.fn (F := Ideal) x0 x1 x2 x3 x4 x5 (Run.kRasters x0 x1 x2 x3 x4) (Run.kOffsets x0 x1 x3 x4)).1
        = (fun _ => 1#1)
    ∧ (Cert.Post_near.fn (F := Ideal) x0 x1 x2 x3 x4 x5 (Run.kRasters x0 x1 x2 x3 x4) (Run.kOffsets x0 x1 x3 x4)).2
        = (fun _ => 1#1) := by
  constructor
  · funext j
    obtain ⟨n, i, k, l, rfl⟩ : ∃ n i k l, j = ix4 n i k l := ⟨_, _, _, _, eq_ix4 j⟩
    refine (Near.raster_near x0 x1 x2 x3 x4 x5 _ _ n i k l).trans ?_
    refine congrArg BitVec.ofBool (decide_eq_true ?_)
    have e : Run.kRasters x0 x1 x2 x3 x4 (ix4 n i k l) = rRaster rErf (fun a => x0 (ix2 n a))
        (Ref.centre x1 x3 n) (fun a => x4 (ix1 a)) (x2 (ix1 n)) i.val k.val l.val :=
      Equation.raster_eq _ _ (fun a => h0 _) (fun a => h4 _) _ _ _
    rw [e]
    exact Distance.raster_close _ _ _ _ _ _ _
  · funext j
    obtain ⟨n, a, rfl⟩ : ∃ n a, j = ix2 n a := ⟨_, _, eq_ix2 j⟩
    refine (Near.offset_near x0 x1 x2 x3 x4 x5 _ _ n a).trans ?_
    exact congrArg BitVec.ofBool (decide_eq_true (congrArg _ (Equation.corner_eq _ _ (h4 _))))

/-- From every memory in which no width and no cell size is zero, the kernel ends with results that have the property
    `near` of its arguments. -/
theorem holds : Cert.holds_KernelIdeal_near_pre_nonzero := by
  intro m g hpre
  have near := fun c : Dev Cert.KernelIdeal.nD => near_results (m (c.tc.loc Cert.KernelIdeal.main_arg0)) (m (c.tc.loc Cert.KernelIdeal.main_arg1)) (m (c.tc.loc Cert.KernelIdeal.main_arg2))
    (m (c.tc.loc Cert.KernelIdeal.main_arg3)) (m (c.tc.loc Cert.KernelIdeal.main_arg4)) (m (c.tc.loc Cert.KernelIdeal.main_arg5))
    (nonzero_iff _ _ _ _ _ _ (hpre c)).1 (nonzero_iff _ _ _ _ _ _ (hpre c)).2
  run_from Run.run m g & Cert.KernelIdeal.Gen.unchanged m g
  · exact (near c).1
  · exact (near c).2

end Cert.Proof.Claims

end
-- ==== Proof.lean ====
module

public import proofs.«01_k».proof.Defs
public import proofs.«01_k».proof.Proof.Claims

@[expose] public section

noncomputable section

namespace Cert.Proof

/-- Every claim holds. -/
theorem claim : Cert.Claim :=
  ⟨Cert.Kernel.Gen.facts, Cert.KernelIdeal.Gen.facts, Cert.ReferenceIdeal.Gen.facts, Claims.pre_facts, Near.post_facts,
    Claims.quiescent_Kernel, Claims.quiescent_KernelIdeal, fun m g _ => Claims.quiescent_KernelIdeal m g trivial,
    Claims.quiescent_ReferenceIdeal, fun m g _ => Claims.quiescent_ReferenceIdeal m g trivial,
    Claims.preserves, Claims.algebraic, Claims.holds⟩

end Cert.Proof

end
